-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90_0) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v90_1) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v90_2) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_v129) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v19) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mix_MixIdeal
    ∧ algebraic_MixIdeal_MixReferenceIdeal (hMixIdeal := hMixIdeal) (hMixReferenceIdeal := hMixReferenceIdeal)
-- ==== Pre_finite_inputs.lean ====
abbrev S6x256x24x128 : Shape := ⟨4, ![6, 256, 24, 128]⟩
abbrev S6x256x8x128 : Shape := ⟨4, ![6, 256, 8, 128]⟩
abbrev S6x256x24x32 : Shape := ⟨4, ![6, 256, 24, 32]⟩
abbrev S_ : Shape := ⟨0, ![]⟩

class Facts : Prop where
  bitsLt_bf16_f32 : FTy.bits .bf16 < FTy.bits .f32
  bcast_S_S6x256x24x128 : S_.BroadcastsInDim S6x256x24x128 (![] : Fin 0 → Fin S6x256x24x128.rank)
  reducesTo_S6x256x24x128_S_d0_1_2_3 : S6x256x24x128.ReducesTo [0, 1, 2, 3] S_
  h_S_ : 0 < S_.numel
  bcast_S_S6x256x8x128 : S_.BroadcastsInDim S6x256x8x128 (![] : Fin 0 → Fin S6x256x8x128.rank)
  reducesTo_S6x256x8x128_S_d0_1_2_3 : S6x256x8x128.ReducesTo [0, 1, 2, 3] S_

variable [Facts]

def fn {F : FTy → Type} [FloatOps F] (main_arg0 : FVec F S6x256x24x128 .bf16) (main_arg1 : FVec F S6x256x8x128 .bf16) (main_arg2 : FVec F S6x256x8x128 .bf16) (main_arg3 : IVec S6x256x24x32 32) : IVec S_ 1 :=
  let main_v0 : FVec F S6x256x24x128 .f32 := (extf .f32 · bitsLt_bf16_f32) main_arg0
  let main_v1 : FVec F S6x256x24x128 .f32 := Host.absf main_v0
  let main_cst : FVec F S_ .f32 := constant S_ .f32 0x7F7F0000#32
  let main_v2 : FVec F S6x256x24x128 .f32 := broadcastInDim S6x256x24x128 ![] bcast_S_S6x256x24x128 main_cst
  let main_v3 : IVec S6x256x24x128 1 := cmpf .ole main_v1 main_v2
  let main_c : IVec S_ 1 := constantI S_ 1 1#1
  let main_v4 : IVec S_ 1 := (fun x v => Host.reduce IntOp.andi x v reducesTo_S6x256x24x128_S_d0_1_2_3 h_S_) main_v3 main_c
  let main_v5 : FVec F S6x256x8x128 .f32 := (extf .f32 · bitsLt_bf16_f32) main_arg1
  let main_v6 : FVec F S6x256x8x128 .f32 := Host.absf main_v5
  let main_cst_0 : FVec F S_ .f32 := constant S_ .f32 0x7F7F0000#32
  let main_v7 : FVec F S6x256x8x128 .f32 := broadcastInDim S6x256x8x128 ![] bcast_S_S6x256x8x128 main_cst_0
  let main_v8 : IVec S6x256x8x128 1 := cmpf .ole main_v6 main_v7
  let main_c_1 : IVec S_ 1 := constantI S_ 1 1#1
  let main_v9 : IVec S_ 1 := (fun x v => Host.reduce IntOp.andi x v reducesTo_S6x256x8x128_S_d0_1_2_3 h_S_) main_v8 main_c_1
  let main_v10 : FVec F S6x256x8x128 .f32 := (extf .f32 · bitsLt_bf16_f32) main_arg2
  let main_v11 : FVec F S6x256x8x128 .f32 := Host.absf main_v10
  let main_cst_2 : FVec F S_ .f32 := constant S_ .f32 0x7F7F0000#32
  let main_v12 : FVec F S6x256x8x128 .f32 := broadcastInDim S6x256x8x128 ![] bcast_S_S6x256x8x128 main_cst_2
  let main_v13 : IVec S6x256x8x128 1 := cmpf .ole main_v11 main_v12
  let main_c_3 : IVec S_ 1 := constantI S_ 1 1#1
  let main_v14 : IVec S_ 1 := (fun x v => Host.reduce IntOp.andi x v reducesTo_S6x256x8x128_S_d0_1_2_3 h_S_) main_v13 main_c_3
  let main_v15 : IVec S_ 1 := andi main_v4 main_v9
  let main_v16 : IVec S_ 1 := andi main_v15 main_v14
  main_v16
-- ==== Kernel.lean ====
abbrev S6x256x24x128 : Shape := ⟨4, ![6, 256, 24, 128]⟩
abbrev S6x256x8x128 : Shape := ⟨4, ![6, 256, 8, 128]⟩
abbrev S6x256x24x32 : Shape := ⟨4, ![6, 256, 24, 32]⟩
abbrev S6x24x32x256 : Shape := ⟨4, ![6, 24, 32, 256]⟩
abbrev S6x256x24 : Shape := ⟨3, ![6, 256, 24]⟩
abbrev S6x256x8 : Shape := ⟨3, ![6, 256, 8]⟩
abbrev S6x24x256x128 : Shape := ⟨4, ![6, 24, 256, 128]⟩
abbrev S6x48x128 : Shape := ⟨3, ![6, 48, 128]⟩
abbrev S6x24x2x32x128 : Shape := ⟨5, ![6, 24, 2, 32, 128]⟩
abbrev S1x256x24x128 : Shape := ⟨4, ![1, 256, 24, 128]⟩
abbrev S1x256x8x128 : Shape := ⟨4, ![1, 256, 8, 128]⟩
abbrev S1x24x32x256 : Shape := ⟨4, ![1, 24, 32, 256]⟩
abbrev S1x256x24 : Shape := ⟨3, ![1, 256, 24]⟩
abbrev S1x256x8 : Shape := ⟨3, ![1, 256, 8]⟩
abbrev S1x24x256x128 : Shape := ⟨4, ![1, 24, 256, 128]⟩
abbrev S1x48x128 : Shape := ⟨3, ![1, 48, 128]⟩
abbrev S1x24x2x32x128 : Shape := ⟨5, ![1, 24, 2, 32, 128]⟩
abbrev S6144x128 : Shape := ⟨2, ![6144, 128]⟩
abbrev S2048x128 : Shape := ⟨2, ![2048, 128]⟩
abbrev S1x8x24x128 : Shape := ⟨4, ![1, 8, 24, 128]⟩
abbrev S8x24x128 : Shape := ⟨3, ![8, 24, 128]⟩
abbrev S8x24 : Shape := ⟨2, ![8, 24]⟩
abbrev S8x24x1 : Shape := ⟨3, ![8, 24, 1]⟩
abbrev S192x128 : Shape := ⟨2, ![192, 128]⟩
abbrev S1x8x8x128 : Shape := ⟨4, ![1, 8, 8, 128]⟩
abbrev S8x8x128 : Shape := ⟨3, ![8, 8, 128]⟩
abbrev S8x8 : Shape := ⟨2, ![8, 8]⟩
abbrev S8x8x1 : Shape := ⟨3, ![8, 8, 1]⟩
abbrev S64x128 : Shape := ⟨2, ![64, 128]⟩
abbrev S256x128 : Shape := ⟨2, ![256, 128]⟩
abbrev S256x24 : Shape := ⟨2, ![256, 24]⟩
abbrev S256x8 : Shape := ⟨2, ![256, 8]⟩
abbrev S128x256 : Shape := ⟨2, ![128, 256]⟩
abbrev S1x128 : Shape := ⟨2, ![1, 128]⟩
abbrev S1x1x128 : Shape := ⟨3, ![1, 1, 128]⟩
abbrev S1x1x32x128 : Shape := ⟨4, ![1, 1, 32, 128]⟩
abbrev S32x128 : Shape := ⟨2, ![32, 128]⟩
abbrev S1x1x1x32x128 : Shape := ⟨5, ![1, 1, 1, 32, 128]⟩
abbrev S256x256 : Shape := ⟨2, ![256, 256]⟩
abbrev S1x256 : Shape := ⟨2, ![1, 256]⟩
abbrev S256x1 : Shape := ⟨2, ![256, 1]⟩
abbrev S256 : Shape := ⟨1, ![256]⟩
abbrev S1x1x256x128 : Shape := ⟨4, ![1, 1, 256, 128]⟩

abbrev nBuf : Space → Nat
  | .hbm => 15
  | .vmem => 34
  | .smem => 0
  | _ => 0

abbrev bufTy : (tb : Table) → Fin (tcTables nBuf tb) → BufTy
  | .hbm, ⟨0, _⟩ => ⟨S6x256x24x128, .bf16⟩
  | .hbm, ⟨1, _⟩ => ⟨S6x256x8x128, .bf16⟩
  | .hbm, ⟨2, _⟩ => ⟨S6x256x8x128, .bf16⟩
  | .hbm, ⟨3, _⟩ => ⟨S6x256x24x32, .i32⟩
  | .hbm, ⟨4, _⟩ => ⟨S6x24x32x256, .i32⟩
  | .hbm, ⟨5, _⟩ => ⟨S6x256x24x128, .fp8e4m3⟩
  | .hbm, ⟨6, _⟩ => ⟨S6x256x24, .f32⟩
  | .hbm, ⟨7, _⟩ => ⟨S6x256x8x128, .fp8e4m3⟩
  | .hbm, ⟨8, _⟩ => ⟨S6x256x8, .f32⟩
  | .hbm, ⟨9, _⟩ => ⟨S6x256x8x128, .fp8e4m3⟩
  | .hbm, ⟨10, _⟩ => ⟨S6x256x8, .f32⟩
  | .hbm, ⟨11, _⟩ => ⟨S6x24x256x128, .f32⟩
  | .hbm, ⟨12, _⟩ => ⟨S6x24x256x128, .f32⟩
  | .hbm, ⟨13, _⟩ => ⟨S6x48x128, .f32⟩
  | .hbm, ⟨14, _⟩ => ⟨S6x24x2x32x128, .i32⟩
  | .local _ .vmem, ⟨0, _⟩ => ⟨S1x256x24x128, .bf16⟩
  | .local _ .vmem, ⟨1, _⟩ => ⟨S1x256x24x128, .bf16⟩
  | .local _ .vmem, ⟨2, _⟩ => ⟨S1x256x8x128, .bf16⟩
  | .local _ .vmem, ⟨3, _⟩ => ⟨S1x256x8x128, .bf16⟩
  | .local _ .vmem, ⟨4, _⟩ => ⟨S1x256x8x128, .bf16⟩
  | .local _ .vmem, ⟨5, _⟩ => ⟨S1x256x8x128, .bf16⟩
  | .local _ .vmem, ⟨6, _⟩ => ⟨S1x24x32x256, .i32⟩
  | .local _ .vmem, ⟨7, _⟩ => ⟨S1x24x32x256, .i32⟩
  | .local _ .vmem, ⟨8, _⟩ => ⟨S1x256x24x128, .fp8e4m3⟩
  | .local _ .vmem, ⟨9, _⟩ => ⟨S1x256x24x128, .fp8e4m3⟩
  | .local _ .vmem, ⟨10, _⟩ => ⟨S1x256x24, .f32⟩
  | .local _ .vmem, ⟨11, _⟩ => ⟨S1x256x24, .f32⟩
  | .local _ .vmem, ⟨12, _⟩ => ⟨S1x256x8x128, .fp8e4m3⟩
  | .local _ .vmem, ⟨13, _⟩ => ⟨S1x256x8x128, .fp8e4m3⟩
  | .local _ .vmem, ⟨14, _⟩ => ⟨S1x256x8, .f32⟩
  | .local _ .vmem, ⟨15, _⟩ => ⟨S1x256x8, .f32⟩
  | .local _ .vmem, ⟨16, _⟩ => ⟨S1x256x8x128, .fp8e4m3⟩
  | .local _ .vmem, ⟨17, _⟩ => ⟨S1x256x8x128, .fp8e4m3⟩
  | .local _ .vmem, ⟨18, _⟩ => ⟨S1x256x8, .f32⟩
  | .local _ .vmem, ⟨19, _⟩ => ⟨S1x256x8, .f32⟩
  | .local _ .vmem, ⟨20, _⟩ => ⟨S1x24x256x128, .f32⟩
  | .local _ .vmem, ⟨21, _⟩ => ⟨S1x24x256x128, .f32⟩
  | .local _ .vmem, ⟨22, _⟩ => ⟨S1x24x256x128, .f32⟩
  | .local _ .vmem, ⟨23, _⟩ => ⟨S1x24x256x128, .f32⟩
  | .local _ .vmem, ⟨24, _⟩ => ⟨S1x48x128, .f32⟩
  | .local _ .vmem, ⟨25, _⟩ => ⟨S1x48x128, .f32⟩
  | .local _ .vmem, ⟨26, _⟩ => ⟨S1x24x2x32x128, .i32⟩
  | .local _ .vmem, ⟨27, _⟩ => ⟨S1x24x2x32x128, .i32⟩
  | .local _ .vmem, ⟨28, _⟩ => ⟨S6144x128, .f32⟩
  | .local _ .vmem, ⟨29, _⟩ => ⟨S6144x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | _, _ => ⟨S6x256x24x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev main_v1_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 4 → Nat :=
  let c0_1230 : Index := 0#32
  let c0_i32 : BitVec 32 := 0#32
  let c1_i32 : BitVec 32 := 1#32
  let arg21 : BitVec 32 := Scf.iv c0_i32 c1_i32 k0_t1
  let c8_i32_1229 : BitVec 32 := 8#32
  let v1675 : BitVec 32 := Scalar.muli arg21 c8_i32_1229
  let v1676 : Index := Scalar.indexCast v1675
  let c0_1231 : Index := 0#32
  let c0_1232 : Index := 0#32
  ![0, v1676.toNat, 0, 0]
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c8_i32_1229 : BitVec 32 := 8#32
  let v1675 : BitVec 32 := Scalar.muli arg21 c8_i32_1229
  let c24_i32 : BitVec 32 := 24#32
  let v1769 : BitVec 32 := Scalar.muli v1675 c24_i32
  v1769
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32_1229 : BitVec 32 := 8#32
  let v1675 : BitVec 32 := Scalar.muli arg21 c8_i32_1229
  let c24_i32 : BitVec 32 := 24#32
  let v1769 : BitVec 32 := Scalar.muli v1675 c24_i32
  let v1770 : BitVec 32 := v1769
  let v1773 : Index := Scalar.indexCast v1770
  let c0_1260 : Index := 0#32
  ![v1773.toNat, 0]
@[reducible] def k0_t2_loop : Scf.Loop 32 :=
  let c0_i32_1 : BitVec 32 := 0#32
  let c32_i32_2 : BitVec 32 := 32#32
  let v1 : BitVec 32 := Scalar.addi c0_i32_1 c32_i32_2
  let c1_i32_3 : BitVec 32 := 1#32
  ⟨c0_i32_1, v1, c1_i32_3⟩
def k0_off3 (k0_t2 : Fin k0_t2_loop.trips) : Fin 4 → Nat :=
  let c0_1230 : Index := 0#32
  let c0_i32_1 : BitVec 32 := 0#32
  let c1_i32_3 : BitVec 32 := 1#32
  let arg21 : BitVec 32 := Scf.iv c0_i32_1 c1_i32_3 k0_t2
  let c8_i32_1229 : BitVec 32 := 8#32
  let v1675 : BitVec 32 := Scalar.muli arg21 c8_i32_1229
  let v1676 : Index := Scalar.indexCast v1675
  let c0_1231 : Index := 0#32
  let c0_1232 : Index := 0#32
  ![0, v1676.toNat, 0, 0]
def k0_mult2 (k0_t2 : Fin k0_t2_loop.trips) : BitVec 32 :=
  let c0_i32_1 : BitVec 32 := 0#32
  let c1_i32_3 : BitVec 32 := 1#32
  let arg21 : BitVec 32 := Scf.iv c0_i32_1 c1_i32_3 k0_t2
  let c8_i32_1229 : BitVec 32 := 8#32
  let v1675 : BitVec 32 := Scalar.muli arg21 c8_i32_1229
  let c8_i32_1260 : BitVec 32 := 8#32
  let v1769 : BitVec 32 := Scalar.muli v1675 c8_i32_1260
  v1769
def k0_off4 (k0_t2 : Fin k0_t2_loop.trips) : Fin 2 → Nat :=
  let c0_i32_1 : BitVec 32 := 0#32
  let c1_i32_3 : BitVec 32 := 1#32
  let arg21 : BitVec 32 := Scf.iv c0_i32_1 c1_i32_3 k0_t2
  let c8_i32_1229 : BitVec 32 := 8#32
  let v1675 : BitVec 32 := Scalar.muli arg21 c8_i32_1229
  let c8_i32_1260 : BitVec 32 := 8#32
  let v1769 : BitVec 32 := Scalar.muli v1675 c8_i32_1260
  let v1770 : BitVec 32 := v1769
  let v1773 : Index := Scalar.indexCast v1770
  let c0_1261 : Index := 0#32
  ![v1773.toNat, 0]
@[reducible] def k0_t3_loop : Scf.Loop 32 :=
  let c0_i32_5 : BitVec 32 := 0#32
  let c32_i32_6 : BitVec 32 := 32#32
  let v2 : BitVec 32 := Scalar.addi c0_i32_5 c32_i32_6
  let c1_i32_7 : BitVec 32 := 1#32
  ⟨c0_i32_5, v2, c1_i32_7⟩
def k0_off5 (k0_t3 : Fin k0_t3_loop.trips) : Fin 4 → Nat :=
  let c0_1230 : Index := 0#32
  let c0_i32_5 : BitVec 32 := 0#32
  let c1_i32_7 : BitVec 32 := 1#32
  let arg21 : BitVec 32 := Scf.iv c0_i32_5 c1_i32_7 k0_t3
  let c8_i32_1229 : BitVec 32 := 8#32
  let v1675 : BitVec 32 := Scalar.muli arg21 c8_i32_1229
  let v1676 : Index := Scalar.indexCast v1675
  let c0_1231 : Index := 0#32
  let c0_1232 : Index := 0#32
  ![0, v1676.toNat, 0, 0]
def k0_mult3 (k0_t3 : Fin k0_t3_loop.trips) : BitVec 32 :=
  let c0_i32_5 : BitVec 32 := 0#32
  let c1_i32_7 : BitVec 32 := 1#32
  let arg21 : BitVec 32 := Scf.iv c0_i32_5 c1_i32_7 k0_t3
  let c8_i32_1229 : BitVec 32 := 8#32
  let v1675 : BitVec 32 := Scalar.muli arg21 c8_i32_1229
  let c8_i32_1260 : BitVec 32 := 8#32
  let v1769 : BitVec 32 := Scalar.muli v1675 c8_i32_1260
  v1769
def k0_off6 (k0_t3 : Fin k0_t3_loop.trips) : Fin 2 → Nat :=
  let c0_i32_5 : BitVec 32 := 0#32
  let c1_i32_7 : BitVec 32 := 1#32
  let arg21 : BitVec 32 := Scf.iv c0_i32_5 c1_i32_7 k0_t3
  let c8_i32_1229 : BitVec 32 := 8#32
  let v1675 : BitVec 32 := Scalar.muli arg21 c8_i32_1229
  let c8_i32_1260 : BitVec 32 := 8#32
  let v1769 : BitVec 32 := Scalar.muli v1675 c8_i32_1260
  let v1770 : BitVec 32 := v1769
  let v1773 : Index := Scalar.indexCast v1770
  let c0_1261 : Index := 0#32
  ![v1773.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x256x24x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x24x32x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x24x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x24x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x24x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x48x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x24x2x32x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S6x256x24x128 : Shape := ⟨4, ![6, 256, 24, 128]⟩
abbrev S6x256x8x128 : Shape := ⟨4, ![6, 256, 8, 128]⟩
abbrev S6x256x24x32 : Shape := ⟨4, ![6, 256, 24, 32]⟩
abbrev S_ : Shape := ⟨0, ![]⟩
abbrev S6x256x24 : Shape := ⟨3, ![6, 256, 24]⟩
abbrev S254 : Shape := ⟨1, ![254]⟩
abbrev S6x256x24x1 : Shape := ⟨4, ![6, 256, 24, 1]⟩
abbrev S1x1x1x254 : Shape := ⟨4, ![1, 1, 1, 254]⟩
abbrev S6x256x24x254 : Shape := ⟨4, ![6, 256, 24, 254]⟩
abbrev S1 : Shape := ⟨1, ![1]⟩
abbrev S6x256x8 : Shape := ⟨3, ![6, 256, 8]⟩
abbrev S6x256x8x1 : Shape := ⟨4, ![6, 256, 8, 1]⟩
abbrev S6x256x8x254 : Shape := ⟨4, ![6, 256, 8, 254]⟩
abbrev S6x256x8x3x128 : Shape := ⟨5, ![6, 256, 8, 3, 128]⟩
abbrev S6x8x256x256x3 : Shape := ⟨5, ![6, 8, 256, 256, 3]⟩
abbrev S6x256x256x8x3 : Shape := ⟨5, ![6, 256, 256, 8, 3]⟩
abbrev S6x256x1x8x3 : Shape := ⟨5, ![6, 256, 1, 8, 3]⟩
abbrev S6x1x256x8x1 : Shape := ⟨5, ![6, 1, 256, 8, 1]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256x1x1 : Shape := ⟨5, ![1, 256, 256, 1, 1]⟩
abbrev S6x256x8x3 : Shape := ⟨4, ![6, 256, 8, 3]⟩
abbrev S6x8x128x256x3 : Shape := ⟨5, ![6, 8, 128, 256, 3]⟩
abbrev S6x24x256x128 : Shape := ⟨4, ![6, 24, 256, 128]⟩

abbrev nBuf : Space → Nat
  | .hbm => 207
  | .vmem => 9
  | .smem => 0
  | _ => 0

abbrev hbmTy0_0 (i : Nat) : BufTy := match i % 128 with
  | 0 => ⟨S6x256x24x128, .bf16⟩
  | 1 => ⟨S6x256x8x128, .bf16⟩
  | 2 => ⟨S6x256x8x128, .bf16⟩
  | 3 => ⟨S6x256x24x32, .i32⟩
  | 4 => ⟨S6x256x24x128, .f32⟩
  | 5 => ⟨S6x256x24x128, .f32⟩
  | 6 => ⟨S_, .f32⟩
  | 7 => ⟨S6x256x24, .f32⟩
  | 8 => ⟨S_, .f32⟩
  | 9 => ⟨S6x256x24, .f32⟩
  | 10 => ⟨S6x256x24, .f32⟩
  | 11 => ⟨S254, .i32⟩
  | 12 => ⟨S_, .i32⟩
  | 13 => ⟨S254, .i32⟩
  | 14 => ⟨S254, .i32⟩
  | 15 => ⟨S_, .i32⟩
  | 16 => ⟨S254, .i32⟩
  | 17 => ⟨S254, .i32⟩
  | 18 => ⟨S254, .f32⟩
  | 19 => ⟨S6x256x24x1, .f32⟩
  | 20 => ⟨S1x1x1x254, .f32⟩
  | 21 => ⟨S6x256x24x254, .f32⟩
  | 22 => ⟨S6x256x24x254, .f32⟩
  | 23 => ⟨S6x256x24x254, .i1⟩
  | 24 => ⟨S_, .f32⟩
  | 25 => ⟨S_, .f32⟩
  | 26 => ⟨S6x256x24x254, .f32⟩
  | 27 => ⟨S6x256x24x254, .f32⟩
  | 28 => ⟨S6x256x24x254, .f32⟩
  | 29 => ⟨S_, .f32⟩
  | 30 => ⟨S6x256x24, .f32⟩
  | 31 => ⟨S1, .f32⟩
  | 32 => ⟨S_, .f32⟩
  | 33 => ⟨S6x256x24, .f32⟩
  | 34 => ⟨S6x256x24, .i1⟩
  | 35 => ⟨S_, .f32⟩
  | 36 => ⟨S_, .f32⟩
  | 37 => ⟨S6x256x24, .f32⟩
  | 38 => ⟨S6x256x24, .f32⟩
  | 39 => ⟨S6x256x8x128, .f32⟩
  | 40 => ⟨S6x256x8x128, .f32⟩
  | 41 => ⟨S_, .f32⟩
  | 42 => ⟨S6x256x8, .f32⟩
  | 43 => ⟨S_, .f32⟩
  | 44 => ⟨S6x256x8, .f32⟩
  | 45 => ⟨S6x256x8, .f32⟩
  | 46 => ⟨S254, .i32⟩
  | 47 => ⟨S_, .i32⟩
  | 48 => ⟨S254, .i32⟩
  | 49 => ⟨S254, .i32⟩
  | 50 => ⟨S_, .i32⟩
  | 51 => ⟨S254, .i32⟩
  | 52 => ⟨S254, .i32⟩
  | 53 => ⟨S254, .f32⟩
  | 54 => ⟨S6x256x8x1, .f32⟩
  | 55 => ⟨S1x1x1x254, .f32⟩
  | 56 => ⟨S6x256x8x254, .f32⟩
  | 57 => ⟨S6x256x8x254, .f32⟩
  | 58 => ⟨S6x256x8x254, .i1⟩
  | 59 => ⟨S_, .f32⟩
  | 60 => ⟨S_, .f32⟩
  | 61 => ⟨S6x256x8x254, .f32⟩
  | 62 => ⟨S6x256x8x254, .f32⟩
  | 63 => ⟨S6x256x8x254, .f32⟩
  | 64 => ⟨S_, .f32⟩
  | 65 => ⟨S6x256x8, .f32⟩
  | 66 => ⟨S1, .f32⟩
  | 67 => ⟨S_, .f32⟩
  | 68 => ⟨S6x256x8, .f32⟩
  | 69 => ⟨S6x256x8, .i1⟩
  | 70 => ⟨S_, .f32⟩
  | 71 => ⟨S_, .f32⟩
  | 72 => ⟨S6x256x8, .f32⟩
  | 73 => ⟨S6x256x8, .f32⟩
  | 74 => ⟨S6x256x8x128, .f32⟩
  | 75 => ⟨S6x256x8x128, .f32⟩
  | 76 => ⟨S_, .f32⟩
  | 77 => ⟨S6x256x8, .f32⟩
  | 78 => ⟨S_, .f32⟩
  | 79 => ⟨S6x256x8, .f32⟩
  | 80 => ⟨S6x256x8, .f32⟩
  | 81 => ⟨S254, .i32⟩
  | 82 => ⟨S_, .i32⟩
  | 83 => ⟨S254, .i32⟩
  | 84 => ⟨S254, .i32⟩
  | 85 => ⟨S_, .i32⟩
  | 86 => ⟨S254, .i32⟩
  | 87 => ⟨S254, .i32⟩
  | 88 => ⟨S254, .f32⟩
  | 89 => ⟨S6x256x8x1, .f32⟩
  | 90 => ⟨S1x1x1x254, .f32⟩
  | 91 => ⟨S6x256x8x254, .f32⟩
  | 92 => ⟨S6x256x8x254, .f32⟩
  | 93 => ⟨S6x256x8x254, .i1⟩
  | 94 => ⟨S_, .f32⟩
  | 95 => ⟨S_, .f32⟩
  | 96 => ⟨S6x256x8x254, .f32⟩
  | 97 => ⟨S6x256x8x254, .f32⟩
  | 98 => ⟨S6x256x8x254, .f32⟩
  | 99 => ⟨S_, .f32⟩
  | 100 => ⟨S6x256x8, .f32⟩
  | 101 => ⟨S1, .f32⟩
  | 102 => ⟨S_, .f32⟩
  | 103 => ⟨S6x256x8, .f32⟩
  | 104 => ⟨S6x256x8, .i1⟩
  | 105 => ⟨S_, .f32⟩
  | 106 => ⟨S_, .f32⟩
  | 107 => ⟨S6x256x8, .f32⟩
  | 108 => ⟨S6x256x8, .f32⟩
  | 109 => ⟨S6x256x24x128, .f32⟩
  | 110 => ⟨S_, .f32⟩
  | 111 => ⟨S6x256x24, .f32⟩
  | 112 => ⟨S6x256x24, .f32⟩
  | 113 => ⟨S6x256x24x1, .f32⟩
  | 114 => ⟨S6x256x24x128, .f32⟩
  | 115 => ⟨S6x256x24x128, .f32⟩
  | 116 => ⟨S_, .f32⟩
  | 117 => ⟨S_, .f32⟩
  | 118 => ⟨S_, .f32⟩
  | 119 => ⟨S6x256x24x128, .f32⟩
  | 120 => ⟨S6x256x24x128, .f32⟩
  | 121 => ⟨S_, .f32⟩
  | 122 => ⟨S6x256x24x128, .f32⟩
  | 123 => ⟨S6x256x24x128, .f32⟩
  | 124 => ⟨S6x256x8x128, .f32⟩
  | 125 => ⟨S_, .f32⟩
  | 126 => ⟨S6x256x8, .f32⟩
  | 127 => ⟨S6x256x8, .f32⟩
  | _ => ⟨S6x256x24x128, .bf16⟩

abbrev hbmTy0_1 (i : Nat) : BufTy := match i % 128 with
  | 0 => ⟨S6x256x8x1, .f32⟩
  | 1 => ⟨S6x256x8x128, .f32⟩
  | 2 => ⟨S6x256x8x128, .f32⟩
  | 3 => ⟨S_, .f32⟩
  | 4 => ⟨S_, .f32⟩
  | 5 => ⟨S_, .f32⟩
  | 6 => ⟨S6x256x8x128, .f32⟩
  | 7 => ⟨S6x256x8x128, .f32⟩
  | 8 => ⟨S_, .f32⟩
  | 9 => ⟨S6x256x8x128, .f32⟩
  | 10 => ⟨S6x256x8x128, .f32⟩
  | 11 => ⟨S6x256x8x128, .f32⟩
  | 12 => ⟨S_, .f32⟩
  | 13 => ⟨S6x256x8, .f32⟩
  | 14 => ⟨S6x256x8, .f32⟩
  | 15 => ⟨S6x256x8x1, .f32⟩
  | 16 => ⟨S6x256x8x128, .f32⟩
  | 17 => ⟨S6x256x8x128, .f32⟩
  | 18 => ⟨S_, .f32⟩
  | 19 => ⟨S_, .f32⟩
  | 20 => ⟨S_, .f32⟩
  | 21 => ⟨S6x256x8x128, .f32⟩
  | 22 => ⟨S6x256x8x128, .f32⟩
  | 23 => ⟨S_, .f32⟩
  | 24 => ⟨S6x256x8x128, .f32⟩
  | 25 => ⟨S6x256x8x128, .f32⟩
  | 26 => ⟨S6x256x24x128, .fp8e4m3⟩
  | 27 => ⟨S6x256x8x128, .fp8e4m3⟩
  | 28 => ⟨S6x256x8x128, .fp8e4m3⟩
  | 29 => ⟨S6x256x24x128, .f32⟩
  | 30 => ⟨S6x256x8x128, .f32⟩
  | 31 => ⟨S6x256x8x128, .f32⟩
  | 32 => ⟨S6x256x8x3x128, .f32⟩
  | 33 => ⟨S6x8x256x256x3, .f32⟩
  | 34 => ⟨S6x256x256x8x3, .f32⟩
  | 35 => ⟨S6x256x1x8x3, .f32⟩
  | 36 => ⟨S6x256x256x8x3, .f32⟩
  | 37 => ⟨S6x256x256x8x3, .f32⟩
  | 38 => ⟨S6x1x256x8x1, .f32⟩
  | 39 => ⟨S6x256x256x8x3, .f32⟩
  | 40 => ⟨S6x256x256x8x3, .f32⟩
  | 41 => ⟨S_, .f32⟩
  | 42 => ⟨S6x256x256x8x3, .f32⟩
  | 43 => ⟨S6x256x256x8x3, .f32⟩
  | 44 => ⟨S256, .i32⟩
  | 45 => ⟨S1x256, .i32⟩
  | 46 => ⟨S256x1, .i32⟩
  | 47 => ⟨S256x256, .i32⟩
  | 48 => ⟨S256x256, .i32⟩
  | 49 => ⟨S256x256, .i1⟩
  | 50 => ⟨S1x256x256x1x1, .i1⟩
  | 51 => ⟨S_, .f32⟩
  | 52 => ⟨S_, .f32⟩
  | 53 => ⟨S6x256x256x8x3, .i1⟩
  | 54 => ⟨S6x256x256x8x3, .f32⟩
  | 55 => ⟨S6x256x256x8x3, .f32⟩
  | 56 => ⟨S_, .f32⟩
  | 57 => ⟨S6x256x8x3, .f32⟩
  | 58 => ⟨S_, .f32⟩
  | 59 => ⟨S6x256x8x3, .f32⟩
  | 60 => ⟨S6x256x8x3, .f32⟩
  | 61 => ⟨S6x256x1x8x3, .f32⟩
  | 62 => ⟨S6x256x256x8x3, .f32⟩
  | 63 => ⟨S6x256x256x8x3, .f32⟩
  | 64 => ⟨S6x256x256x8x3, .f32⟩
  | 65 => ⟨S_, .f32⟩
  | 66 => ⟨S6x256x8x3, .f32⟩
  | 67 => ⟨S6x256x1x8x3, .f32⟩
  | 68 => ⟨S6x256x256x8x3, .f32⟩
  | 69 => ⟨S6x256x256x8x3, .f32⟩
  | 70 => ⟨S6x1x256x8x1, .f32⟩
  | 71 => ⟨S6x256x256x8x3, .f32⟩
  | 72 => ⟨S6x256x256x8x3, .f32⟩
  | 73 => ⟨S6x256x256x8x3, .bf16⟩
  | 74 => ⟨S6x256x8x128, .bf16⟩
  | 75 => ⟨S6x8x128x256x3, .f32⟩
  | 76 => ⟨S6x256x8x3x128, .f32⟩
  | 77 => ⟨S6x256x24x128, .f32⟩
  | 78 => ⟨S6x24x256x128, .f32⟩
  | _ => ⟨S6x256x24x128, .bf16⟩

abbrev hbmTy (i : Nat) : BufTy := match i / 128 with
  | 0 => hbmTy0_0 i
  | 1 => hbmTy0_1 i
  | _ => ⟨S6x256x24x128, .bf16⟩

abbrev bufTy : (tb : Table) → Fin (tcTables nBuf tb) → BufTy
  | .hbm, ⟨i, _⟩ => hbmTy i
  | .local _ .vmem, ⟨0, _⟩ => ⟨S6x256x24x128, .f32⟩
  | .local _ .vmem, ⟨1, _⟩ => ⟨S6x256x8x128, .f32⟩
  | .local _ .vmem, ⟨2, _⟩ => ⟨S6x256x8x128, .f32⟩
  | .local _ .vmem, ⟨3, _⟩ => ⟨S6x256x24x128, .fp8e4m3⟩
  | .local _ .vmem, ⟨4, _⟩ => ⟨S6x256x8x128, .fp8e4m3⟩
  | .local _ .vmem, ⟨5, _⟩ => ⟨S6x256x8x128, .fp8e4m3⟩
  | .local _ .vmem, ⟨6, _⟩ => ⟨S6x256x24x128, .f32⟩
  | .local _ .vmem, ⟨7, _⟩ => ⟨S6x256x8x128, .f32⟩
  | .local _ .vmem, ⟨8, _⟩ => ⟨S6x256x8x128, .f32⟩
  | _, _ => ⟨S6x256x24x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_call3_v0 : Ref sig .tc := ⟨.hbm, 71, rfl⟩
abbrev main_call3_v1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_c_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_18 : Ref sig .tc := ⟨.hbm, 105, rfl⟩
abbrev main_call5_v0 : Ref sig .tc := ⟨.hbm, 106, rfl⟩
abbrev main_call5_v1 : Ref sig .tc := ⟨.hbm, 107, rfl⟩
abbrev main_v68 : Ref sig .tc := ⟨.hbm, 108, rfl⟩
abbrev main_v69 : Ref sig .tc := ⟨.hbm, 109, rfl⟩
abbrev main_cst_19 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_20 : Ref sig .tc := ⟨.hbm, 116, rfl⟩
abbrev main_cst_21 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v75 : Ref sig .tc := ⟨.hbm, 123, rfl⟩
abbrev main_v76 : Ref sig .tc := ⟨.hbm, 124, rfl⟩
abbrev main_cst_22 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_23 : Ref sig .tc := ⟨.hbm, 131, rfl⟩
abbrev main_cst_24 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v82 : Ref sig .tc := ⟨.hbm, 138, rfl⟩
abbrev main_v83 : Ref sig .tc := ⟨.hbm, 139, rfl⟩
abbrev main_cst_25 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_26 : Ref sig .tc := ⟨.hbm, 146, rfl⟩
abbrev main_cst_27 : Ref sig .tc := ⟨.hbm, 147, rfl⟩
abbrev main_call8_v0 : Ref sig .tc := ⟨.hbm, 148, rfl⟩
abbrev main_call8_v1 : Ref sig .tc := ⟨.hbm, 149, rfl⟩
abbrev main_call8_v2 : Ref sig .tc := ⟨.hbm, 150, rfl⟩
abbrev main_call8_v3 : Ref sig .tc := ⟨.hbm, 151, rfl⟩
abbrev main_call8_v4 : Ref sig .tc := ⟨.hbm, 152, rfl⟩
abbrev main_v89 : Ref sig .tc := ⟨.hbm, 153, rfl⟩
abbrev main_v90_0 : Ref sig .tc := ⟨.hbm, 154, rfl⟩
abbrev main_v90_1 : Ref sig .tc := ⟨.hbm, 155, rfl⟩
abbrev main_v90_2 : Ref sig .tc := ⟨.hbm, 156, rfl⟩
abbrev main_v90_3 : Ref sig .tc := ⟨.hbm, 157, rfl⟩
abbrev main_v90_4 : Ref sig .tc := ⟨.hbm, 158, rfl⟩
abbrev main_v90_5 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_cst_28 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_29 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v109 : Ref sig .tc := ⟨.hbm, 183, rfl⟩
abbrev main_cst_30 : Ref sig .tc := ⟨.hbm, 184, rfl⟩
abbrev main_v110 : Ref sig .tc := ⟨.hbm, 185, rfl⟩
abbrev main_cst_31 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_32 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x256x24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x24x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Mix.lean ====
abbrev S6x24x256x128 : Shape := ⟨4, ![6, 24, 256, 128]⟩
abbrev S24 : Shape := ⟨1, ![24]⟩
abbrev S24x1 : Shape := ⟨2, ![24, 1]⟩
abbrev S24x128 : Shape := ⟨2, ![24, 128]⟩
abbrev S6x256x3072 : Shape := ⟨3, ![6, 256, 3072]⟩
abbrev S1x24x256x128 : Shape := ⟨4, ![1, 24, 256, 128]⟩
abbrev S1x256x3072 : Shape := ⟨3, ![1, 256, 3072]⟩
abbrev S1x128 : Shape := ⟨2, ![1, 128]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 6
  | .vmem => 7
  | .smem => 0
  | _ => 0

abbrev bufTy : (tb : Table) → Fin (tcTables nBuf tb) → BufTy
  | .hbm, ⟨0, _⟩ => ⟨S6x24x256x128, .f32⟩
  | .hbm, ⟨1, _⟩ => ⟨S6x24x256x128, .f32⟩
  | .hbm, ⟨2, _⟩ => ⟨S24, .f32⟩
  | .hbm, ⟨3, _⟩ => ⟨S24x1, .f32⟩
  | .hbm, ⟨4, _⟩ => ⟨S24x128, .f32⟩
  | .hbm, ⟨5, _⟩ => ⟨S6x256x3072, .bf16⟩
  | .local _ .vmem, ⟨0, _⟩ => ⟨S1x24x256x128, .f32⟩
  | .local _ .vmem, ⟨1, _⟩ => ⟨S1x24x256x128, .f32⟩
  | .local _ .vmem, ⟨2, _⟩ => ⟨S1x24x256x128, .f32⟩
  | .local _ .vmem, ⟨3, _⟩ => ⟨S1x24x256x128, .f32⟩
  | .local _ .vmem, ⟨4, _⟩ => ⟨S24x128, .f32⟩
  | .local _ .vmem, ⟨5, _⟩ => ⟨S1x256x3072, .bf16⟩
  | .local _ .vmem, ⟨6, _⟩ => ⟨S1x256x3072, .bf16⟩
  | _, _ => ⟨S6x24x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x24x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixReferenceIdeal.lean ====
abbrev S6x24x256x128 : Shape := ⟨4, ![6, 24, 256, 128]⟩
abbrev S24 : Shape := ⟨1, ![24]⟩
abbrev S_ : Shape := ⟨0, ![]⟩
abbrev S24x1 : Shape := ⟨2, ![24, 1]⟩
abbrev S6x256x24x128 : Shape := ⟨4, ![6, 256, 24, 128]⟩
abbrev S1x1x24x1 : Shape := ⟨4, ![1, 1, 24, 1]⟩
abbrev S6x256x3072 : Shape := ⟨3, ![6, 256, 3072]⟩

abbrev nBuf : Space → Nat
  | .hbm => 26
  | .vmem => 0
  | .smem => 0
  | _ => 0

abbrev bufTy : (tb : Table) → Fin (tcTables nBuf tb) → BufTy
  | .hbm, ⟨0, _⟩ => ⟨S6x24x256x128, .f32⟩
  | .hbm, ⟨1, _⟩ => ⟨S6x24x256x128, .f32⟩
  | .hbm, ⟨2, _⟩ => ⟨S24, .f32⟩
  | .hbm, ⟨3, _⟩ => ⟨S24, .f32⟩
  | .hbm, ⟨4, _⟩ => ⟨S24, .f32⟩
  | .hbm, ⟨5, _⟩ => ⟨S_, .f32⟩
  | .hbm, ⟨6, _⟩ => ⟨S24, .f32⟩
  | .hbm, ⟨7, _⟩ => ⟨S24, .f32⟩
  | .hbm, ⟨8, _⟩ => ⟨S_, .f32⟩
  | .hbm, ⟨9, _⟩ => ⟨S24, .f32⟩
  | .hbm, ⟨10, _⟩ => ⟨S24, .f32⟩
  | .hbm, ⟨11, _⟩ => ⟨S24x1, .f32⟩
  | .hbm, ⟨12, _⟩ => ⟨S6x256x24x128, .f32⟩
  | .hbm, ⟨13, _⟩ => ⟨S6x256x24x128, .f32⟩
  | .hbm, ⟨14, _⟩ => ⟨S1x1x24x1, .f32⟩
  | .hbm, ⟨15, _⟩ => ⟨S6x256x24x128, .f32⟩
  | .hbm, ⟨16, _⟩ => ⟨S6x256x24x128, .f32⟩
  | .hbm, ⟨17, _⟩ => ⟨S_, .f32⟩
  | .hbm, ⟨18, _⟩ => ⟨S24x1, .f32⟩
  | .hbm, ⟨19, _⟩ => ⟨S24x1, .f32⟩
  | .hbm, ⟨20, _⟩ => ⟨S1x1x24x1, .f32⟩
  | .hbm, ⟨21, _⟩ => ⟨S6x256x24x128, .f32⟩
  | .hbm, ⟨22, _⟩ => ⟨S6x256x24x128, .f32⟩
  | .hbm, ⟨23, _⟩ => ⟨S6x256x24x128, .f32⟩
  | .hbm, ⟨24, _⟩ => ⟨S6x256x24x128, .bf16⟩
  | .hbm, ⟨25, _⟩ => ⟨S6x256x3072, .bf16⟩
  | _, _ => ⟨S6x24x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.QuantMath.lean ====
/-
  The arithmetic of the quantiser over the extended reals. The f32 word `n << 23` is the power of two `2 ^ (n - 127)`
  (zero at `n = 0`, `+∞` at `n = 255`). The kernel finds the exponent field of a number `y ≥ 0` by eight comparisons
  with such words, and makes the scale and its reciprocal of the field by shifts; the reference takes the least power
  of two above `y` and divides one by it. The two agree for every `0 ≤ y < 2 ^ 120`.
-/
module

public import Idealize.ShloMosaic.Lib.Pointwise
public import Idealize.ShloMosaic.Lib.IdealHost

@[expose] public section

set_option maxRecDepth 16384

noncomputable section

namespace Cert.Quant

open Idealize.ShloMosaic

/-- The extended real that the f32 word `n << 23` denotes. -/
def pw (n : ℕ) : EReal := Ideal.ofBits .f32 (BitVec.ofNat 32 n <<< 23)

theorem word_fields : ∀ n : Fin 256,
    ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by
  decide +kernel

theorem pw_def (n : ℕ) : pw n = Ideal.ieee 8 23 (BitVec.ofNat 32 n <<< 23) := by
  unfold pw
  simp only [Ideal.ofBits]

/-- The word of field `n`, `1 ≤ n ≤ 254`, is `2 ^ (n - 127)`. -/
theorem pw_eq (n : ℕ) (h1 : 1 ≤ n) (h2 : n ≤ 254) : pw n = (((2 : ℝ) ^ ((n : ℤ) - 127) : ℝ) : EReal) := by
  obtain ⟨ha, hb, hc⟩ := word_fields ⟨n, by omega⟩
  have hr : (1 : ℝ) * ((2 ^ 23 + 0 : ℕ) : ℝ) * (2 : ℝ) ^ ((n : ℤ) - ((2 : ℤ) ^ (8 - 1) - 1) - (23 : ℕ))
      = (2 : ℝ) ^ ((n : ℤ) - 127) := by
    rw [show (n : ℤ) - 127 = 23 + ((n : ℤ) - ((2 : ℤ) ^ (8 - 1) - 1) - (23 : ℕ)) by norm_num,
      zpow_add₀ (by norm_num : (2 : ℝ) ≠ 0)]
    norm_num
  have h255 : ¬ n = 2 ^ 8 - 1 := by
    intro h
    have : (2 : ℕ) ^ 8 - 1 = 255 := by norm_num
    omega
  have h0 : ¬ n = 0 := by omega
  rw [pw_def, ← hr]
  unfold Ideal.ieee
  dsimp only at ha hb hc ⊢
  rw [ha, hb, hc, if_neg h255, if_neg h0, if_neg Bool.false_ne_true]

theorem pw_zero : pw 0 = 0 := by
  unfold pw
  simp [Ideal.ofBits, Ideal.ieee]

theorem pw_top : pw 255 = ⊤ := by
  obtain ⟨ha, hb, hc⟩ := word_fields ⟨255, by omega⟩
  simp only at ha hb hc
  rw [pw_def]
  unfold Ideal.ieee
  simp only [ha, hb, hc]
  simp

/-- The words' values rise with the field. -/
theorem pw_mono {a b : ℕ} (hab : a ≤ b) (hb : b ≤ 255) : pw a ≤ pw b := by
  rcases Nat.lt_or_ge b 255 with h | h
  · rcases Nat.eq_zero_or_pos a with rfl | ha
    · rw [pw_zero]
      rcases Nat.eq_zero_or_pos b with rfl | hb'
      · rw [pw_zero]
      · rw [pw_eq b hb' (by omega)]
        exact EReal.coe_nonneg.mpr (by positivity)
    · rw [pw_eq a ha (by omega), pw_eq b (by omega) (by omega)]
      exact EReal.coe_le_coe_iff.mpr (zpow_le_zpow_right₀ (by norm_num) (by omega))
  · have : b = 255 := by omega
    subst this
    rw [pw_top]; exact le_top

/-- One comparison of the search, on words: the field moves ahead by `s` if the word of the field ahead is at most `y`. -/
def step (y : EReal) (f s : BitVec 32) : BitVec 32 :=
  Scalar.select (FloatOps.cmpf (F := Ideal) (φ := .f32) .oge y
    (FloatOps.ofBits (F := Ideal) .f32 (IntOp.shli .vector (IntOp.addi f s) 23#32))) (IntOp.addi f s) f

/-- The search: the exponent field of `y`. -/
def field (y : EReal) : BitVec 32 :=
  step y (step y (step y (step y (step y (step y (step y (step y 0#32 128#32) 64#32) 32#32) 16#32) 8#32) 4#32) 2#32) 1#32

/-- The exponent made of the field: `field - 126`, and 0 for a field of 0. -/
def expo (y : EReal) : BitVec 32 :=
  Scalar.select (IntOp.cmpi .slt (field y) 1#32) 0#32 (IntOp.subi (field y) 126#32)

/-- The kernel's scale of a row whose largest magnitude over 448 is `y`. -/
def kscale (y : EReal) : EReal := FloatOps.ofBits (F := Ideal) .f32 (IntOp.shli .vector (IntOp.addi (expo y) 127#32) 23#32)

/-- The kernel's reciprocal of the scale. -/
def kinv (y : EReal) : EReal := FloatOps.ofBits (F := Ideal) .f32 (IntOp.shli .vector (IntOp.subi 127#32 (expo y)) 23#32)

theorem ofBits_shli (n : ℕ) :
    FloatOps.ofBits (F := Ideal) .f32 (IntOp.shli .vector (BitVec.ofNat 32 n) 23#32) = pw n := rfl

theorem step_eq (y : EReal) (f s : ℕ) :
    step y (BitVec.ofNat 32 f) (BitVec.ofNat 32 s) = BitVec.ofNat 32 (if pw (f + s) ≤ y then f + s else f) := by
  have ha : IntOp.addi (BitVec.ofNat 32 f) (BitVec.ofNat 32 s) = BitVec.ofNat 32 (f + s) := by
    show BitVec.ofNat 32 f + BitVec.ofNat 32 s = _
    rw [BitVec.ofNat_add]
  unfold step
  rw [ha, ofBits_shli]
  show Scalar.select (BitVec.ofBool (decide (pw (f + s) ≤ y))) _ _ = _
  by_cases h : pw (f + s) ≤ y <;> simp [h, Scalar.select]

/-- What a step keeps: the field's word is at most `y`, and the word two steps ahead is above it. -/
theorem step_inv (y : EReal) (f s : ℕ) (hf : pw f ≤ y) (hs : y < pw (f + (s + s)) ∨ 255 < f + (s + s)) :
    ∃ g : ℕ, step y (BitVec.ofNat 32 f) (BitVec.ofNat 32 s) = BitVec.ofNat 32 g ∧ pw g ≤ y
      ∧ (y < pw (g + s) ∨ 255 < g + s) ∧ (g = f ∨ g = f + s) := by
  rw [step_eq]
  by_cases h : pw (f + s) ≤ y
  · refine ⟨f + s, by rw [if_pos h], h, ?_, Or.inr rfl⟩
    rw [Nat.add_assoc]; exact hs
  · exact ⟨f, by rw [if_neg h], hf, Or.inl (lt_of_not_ge h), Or.inl rfl⟩

/-- The search ends at a field `E` with `pw E ≤ y < pw (E + 1)`. -/
theorem field_spec (y : EReal) (h0 : 0 ≤ y) (h : y < pw 247) :
    ∃ E : ℕ, E ≤ 246 ∧ field y = BitVec.ofNat 32 E ∧ pw E ≤ y ∧ y < pw (E + 1) := by
  unfold field
  obtain ⟨a, ha, pa, qa, ra⟩ := step_inv y 0 128 (by rw [pw_zero]; exact h0) (Or.inr (by norm_num))
  obtain ⟨b, hb, pb, qb, rb⟩ := step_inv y a 64 pa qa
  obtain ⟨c, hc, pc, qc, rc⟩ := step_inv y b 32 pb qb
  obtain ⟨d, hd, pd, qd, rd⟩ := step_inv y c 16 pc qc
  obtain ⟨e, he, pe, qe, re⟩ := step_inv y d 8 pd qd
  obtain ⟨f, hf, pf, qf, rf⟩ := step_inv y e 4 pe qe
  obtain ⟨g, hg, pg, qg, rg⟩ := step_inv y f 2 pf qf
  obtain ⟨k, hk, pk, qk, rk⟩ := step_inv y g 1 pg qg
  have hk255 : k ≤ 255 := by omega
  have hk246 : k ≤ 246 := by
    by_contra hcon
    exact absurd (lt_of_le_of_lt pk h) (not_lt_of_ge (pw_mono (by omega) hk255))
  refine ⟨k, hk246, ?_, pk, qk.resolve_right (by omega)⟩
  rw [show (0#32 : BitVec 32) = BitVec.ofNat 32 0 from rfl, ha, hb, hc, hd, he, hf, hg, hk]

theorem expo_words : ∀ E : Fin 247,
    IntOp.addi (Scalar.select (IntOp.cmpi .slt (BitVec.ofNat 32 E.val) 1#32) 0#32 (IntOp.subi (BitVec.ofNat 32 E.val) 126#32)) 127#32
      = BitVec.ofNat 32 (if E.val = 0 then 127 else E.val + 1)
    ∧ IntOp.subi 127#32 (Scalar.select (IntOp.cmpi .slt (BitVec.ofNat 32 E.val) 1#32) 0#32 (IntOp.subi (BitVec.ofNat 32 E.val) 126#32))
      = BitVec.ofNat 32 (if E.val = 0 then 127 else 253 - E.val) := by
  decide +kernel

theorem kscale_eq (y : EReal) (E : ℕ) (hE : E ≤ 246) (h : field y = BitVec.ofNat 32 E) :
    kscale y = pw (if E = 0 then 127 else E + 1) ∧ kinv y = pw (if E = 0 then 127 else 253 - E) := by
  obtain ⟨h1, h2⟩ := expo_words ⟨E, by omega⟩
  simp only at h1 h2
  unfold kscale kinv expo
  rw [h, h1, h2]
  exact ⟨ofBits_shli _, ofBits_shli _⟩

theorem pw_127 : pw 127 = 1 := by
  rw [pw_eq 127 (by norm_num) (by norm_num)]; norm_num

/-- The reference's scale: one where `y` is below the normal numbers, else the least of the powers of two above `y`. -/
def rscale (y : EReal) : EReal :=
  if y < pw 1 then 1
  else Finset.univ.fold min (⊤ : EReal) fun n : Fin 254 => if y < pw (n.val + 1) then pw (n.val + 1) else ⊤

theorem fold_min_eq (y : EReal) (E : ℕ) (hE1 : 1 ≤ E) (hE : E ≤ 246) (h1 : pw E ≤ y) (h2 : y < pw (E + 1)) :
    (Finset.univ.fold min (⊤ : EReal) fun n : Fin 254 => if y < pw (n.val + 1) then pw (n.val + 1) else ⊤) = pw (E + 1) := by
  apply le_antisymm
  · rw [Finset.fold_min_le]
    right
    refine ⟨⟨E, by omega⟩, Finset.mem_univ _, ?_⟩
    simp only [h2, if_true, le_refl]
  · rw [Finset.le_fold_min]
    refine ⟨le_top, fun n _ => ?_⟩
    split
    · rename_i hn
      apply pw_mono _ (by omega)
      by_contra hc
      exact absurd (lt_of_le_of_lt h1 hn) (not_lt_of_ge (pw_mono (by omega) (by omega)))
    · exact le_top

/-- The kernel's scale is the reference's. -/
theorem kscale_eq_rscale (y : EReal) (h0 : 0 ≤ y) (h : y < pw 247) : kscale y = rscale y := by
  obtain ⟨E, hE, hf, h1, h2⟩ := field_spec y h0 h
  rw [(kscale_eq y E hE hf).1]
  unfold rscale
  by_cases hz : E = 0
  · subst hz
    rw [if_pos rfl, if_pos h2, pw_127]
  · rw [if_neg hz, if_neg (not_lt_of_ge ((pw_mono (by omega) (by omega)).trans h1)),
      fold_min_eq y E (by omega) hE h1 h2]

/-- The kernel's reciprocal is one over the reference's scale. -/
theorem kinv_eq (y : EReal) (h0 : 0 ≤ y) (h : y < pw 247) : kinv y = Ideal.div 1 (rscale y) := by
  rw [← kscale_eq_rscale y h0 h]
  obtain ⟨E, hE, hf, h1, h2⟩ := field_spec y h0 h
  rw [(kscale_eq y E hE hf).1, (kscale_eq y E hE hf).2]
  have key : ∀ a b : ℕ, 1 ≤ a → a ≤ 254 → 1 ≤ b → b ≤ 254 → a + b = 254 → pw b = Ideal.div 1 (pw a) := by
    intro a b ha1 ha2 hb1 hb2 hab
    rw [pw_eq a ha1 ha2, pw_eq b hb1 hb2]
    unfold Ideal.div
    rw [if_neg (by
      intro hcon
      have := EReal.coe_eq_zero.mp hcon
      exact absurd this (by positivity)), one_mul, ← EReal.coe_inv]
    congr 1
    rw [← zpow_neg]
    congr 1
    omega
  by_cases hz : E = 0
  · rw [if_pos hz, if_pos hz]
    exact key 127 127 (by norm_num) (by norm_num) (by norm_num) (by norm_num) rfl
  · rw [if_neg hz, if_neg hz]
    exact key _ _ (by omega) (by omega) (by omega) (by omega) (by omega)

theorem ofBits_ninf : Ideal.ofBits .f32 0xFF800000#32 = ⊥ := by
  simp [Ideal.ofBits, Ideal.ieee]

theorem ofBits_pinf : Ideal.ofBits .f32 0x7F800000#32 = ⊤ := by
  simp [Ideal.ofBits, Ideal.ieee]

/-- The largest magnitude of a row. -/
def amax (x : Fin 128 → EReal) : EReal :=
  Finset.univ.fold max (Ideal.ofBits .f32 0xFF800000#32) fun d => max (x d) (-(x d))

/-- The row's largest magnitude over 448. -/
def yq (x : Fin 128 → EReal) : EReal := amax x * Ideal.ofBits .f32 0x3B124925#32

/-- The scale of a row. -/
def scl (x : Fin 128 → EReal) : EReal := rscale (yq x)

/-- The code of element `d` of a row. -/
def code (x : Fin 128 → EReal) (d : Fin 128) : EReal :=
  min (Ideal.ofBits .f32 0x43E00000#32) (max (Ideal.ofBits .f32 0xC3E00000#32) (x d * Ideal.div 1 (scl x)))

/-- The kernel's code of element `d`. -/
def kcode (x : Fin 128 → EReal) (d : Fin 128) : EReal :=
  min (Ideal.ofBits .f32 0x43E00000#32) (max (Ideal.ofBits .f32 0xC3E00000#32) (x d * kinv (yq x)))

/-- A row within the finite bfloat16 numbers. -/
def Tame (x : Fin 128 → EReal) : Prop := ∀ d, max (x d) (-(x d)) ≤ Ideal.ofBits .f32 0x7F7F0000#32

theorem amax_nonneg (x : Fin 128 → EReal) : 0 ≤ amax x := by
  unfold amax
  rw [Finset.le_fold_max]
  right
  refine ⟨0, Finset.mem_univ _, ?_⟩
  rcases le_total 0 (x 0) with h | h
  · exact le_max_of_le_left h
  · exact le_max_of_le_right (by simpa using EReal.neg_le_neg_iff.mpr h)

theorem amax_le (x : Fin 128 → EReal) (hx : Tame x) : amax x ≤ Ideal.ofBits .f32 0x7F7F0000#32 := by
  unfold amax
  rw [Finset.fold_max_le]
  exact ⟨by rw [ofBits_ninf]; exact bot_le, fun d _ => hx d⟩

theorem big_eq : Ideal.ofBits .f32 0x7F7F0000#32 = (((2 ^ 8 - 1) * 2 ^ 120 : ℝ) : EReal) := by
  simp [Ideal.ofBits, Ideal.ieee, -EReal.coe_mul]; norm_num

theorem c448_eq : Ideal.ofBits .f32 0x3B124925#32 = ((9586981 * (2:ℝ) ^ (-32 : ℤ) : ℝ) : EReal) := by
  simp [Ideal.ofBits, Ideal.ieee, -EReal.coe_mul]

theorem yq_nonneg (x : Fin 128 → EReal) : 0 ≤ yq x := by
  unfold yq
  rw [c448_eq]
  exact mul_nonneg (amax_nonneg x) (EReal.coe_nonneg.mpr (by positivity))

theorem yq_lt (x : Fin 128 → EReal) (hx : Tame x) : yq x < pw 247 := by
  unfold yq
  have h1 : amax x * Ideal.ofBits .f32 0x3B124925#32 ≤ Ideal.ofBits .f32 0x7F7F0000#32 * Ideal.ofBits .f32 0x3B124925#32 :=
    mul_le_mul_of_nonneg_right (amax_le x hx) (by rw [c448_eq]; exact EReal.coe_nonneg.mpr (by positivity))
  refine lt_of_le_of_lt h1 ?_
  rw [big_eq, c448_eq, pw_eq 247 (by norm_num) (by norm_num), ← EReal.coe_mul]
  exact EReal.coe_lt_coe_iff.mpr (by norm_num)

theorem kscale_row (x : Fin 128 → EReal) (hx : Tame x) : kscale (yq x) = scl x :=
  kscale_eq_rscale _ (yq_nonneg x) (yq_lt x hx)

theorem kcode_row (x : Fin 128 → EReal) (hx : Tame x) : kcode x = code x := by
  funext d
  unfold kcode code scl
  rw [kinv_eq _ (yq_nonneg x) (yq_lt x hx)]

end Cert.Quant
-- ==== Proof.RowQuant.lean ====
module

public import proofs.«01_k».proof.Proof.Gen.KernelIdeal.Loops
public import proofs.«01_k».proof.Proof.QuantMath
public import Idealize.ShloMosaic.Lib.Pipeline.Value
public import Idealize.ShloMosaic.Lib.Pointwise
public import Idealize.ShloMosaic.Lib.IdealHost

@[expose] public section

set_option maxRecDepth 16384

noncomputable section
namespace Cert.KernelIdeal.Row
open Cert.KernelIdeal Cert.KernelIdeal.Gen Idealize.ShloMosaic Cert.Quant Idealize.ShloMosaic.TcCoe Idealize.SL.Sem

/-- Per row, the largest magnitude times the rounded reciprocal of 448 (queries). -/
theorem pay3 (v : Vec Ideal S1x8x24x128 .bf16) (a : Fin 8) (b : Fin 24) :
    k0_pay3 v (ix3 a b 0) = yq fun d => v (ix4 0 a b d) := by
  pointwise [k0_pay3, k0_pay2]
  rfl

/-- Per row, the exponent the search finds (queries). -/
theorem pay7 (v : Vec Ideal S1x8x24x128 .bf16) (a : Fin 8) (b : Fin 24) :
    k0_pay7 (k0_pay3 v) (k0_pay4 v) (k0_pay5 v) k0_pay6 (ix3 a b 0) = expo (yq fun d => v (ix4 0 a b d)) := by
  rw [← pay3]
  rfl

/-- Per row, the power-of-two scale (queries). -/
theorem pay8 (v : Vec Ideal S1x8x24x128 .bf16) (a : Fin 8) (b : Fin 24) :
    k0_pay8 (k0_pay3 v) (k0_pay4 v) (k0_pay5 v) k0_pay6 (ix3 a b 0) = kscale (yq fun d => v (ix4 0 a b d)) := by
  pointwise [k0_pay8]
  rw [pay7]
  rfl

/-- Per element, the scaled value with the lower clip (queries). -/
theorem pay9 (v : Vec Ideal S1x8x24x128 .bf16) (a : Fin 8) (b : Fin 24) (d : Fin 128) :
    k0_pay9 (k0_pay2 v) (k0_pay3 v) (k0_pay4 v) (k0_pay5 v) k0_pay6 (ix3 a b d)
      = max (Ideal.ofBits .f32 0xC3E00000#32) (v (ix4 0 a b d) * kinv (yq fun d => v (ix4 0 a b d))) := by
  pointwise [k0_pay9]
  rw [pay7]
  pointwise [k0_pay2]
  rfl

/-- The codes as stored to the output block (queries). -/
theorem codes_q (v : Vec Ideal S1x8x24x128 .bf16) (z : Fin 1) (a : Fin 8) (b : Fin 24) (d : Fin 128) :
    k0_pay27 (F := Ideal) (Scalar.ofBits .f32 0x43E00000#32) (k0_pay9 (k0_pay2 v) (k0_pay3 v) (k0_pay4 v) (k0_pay5 v) k0_pay6) (ix4 z a b d)
      = kcode (fun d => v (ix4 0 a b d)) d := by
  pointwise [k0_pay27, k0_pay26]
  rw [pay9]
  rfl

/-- The codes as stored to the scratch, token-major rows (queries). -/
theorem codes_q_flat (v : Vec Ideal S1x8x24x128 .bf16) (r : Fin 192) (d : Fin 128) :
    k0_pay28 (F := Ideal) (Scalar.ofBits .f32 0x43E00000#32) (k0_pay9 (k0_pay2 v) (k0_pay3 v) (k0_pay4 v) (k0_pay5 v) k0_pay6) (ix2 r d)
      = kcode (fun d => v (ix4 0 ⟨r.val / 24, by omega⟩ ⟨r.val % 24, by omega⟩ d)) d := by
  pointwise [k0_pay28, k0_pay26]
  rw [pay9]
  rfl

/-- The scales as stored to the scratch, repeated along the lanes (queries). -/
theorem scales_q_flat (v : Vec Ideal S1x8x24x128 .bf16) (r : Fin 192) (d : Fin 128) :
    k0_pay29 (k0_pay8 (k0_pay3 v) (k0_pay4 v) (k0_pay5 v) k0_pay6) (ix2 r d)
      = kscale (yq fun d => v (ix4 0 ⟨r.val / 24, by omega⟩ ⟨r.val % 24, by omega⟩ d)) := by
  pointwise [k0_pay29]
  rw [pay8]

/-- Per row, the largest magnitude times the rounded reciprocal of 448 (keys). -/
theorem pay3_k (v : Vec Ideal S1x8x8x128 .bf16) (a : Fin 8) (b : Fin 8) :
    k0_pay11 v (ix3 a b 0) = yq fun d => v (ix4 0 a b d) := by
  pointwise [k0_pay11, k0_pay10]
  rfl

/-- Per row, the exponent the search finds (keys). -/
theorem pay7_k (v : Vec Ideal S1x8x8x128 .bf16) (a : Fin 8) (b : Fin 8) :
    k0_pay15 (k0_pay11 v) (k0_pay12 v) (k0_pay13 v) k0_pay14 (ix3 a b 0) = expo (yq fun d => v (ix4 0 a b d)) := by
  rw [← pay3_k]
  rfl

/-- Per row, the power-of-two scale (keys). -/
theorem pay8_k (v : Vec Ideal S1x8x8x128 .bf16) (a : Fin 8) (b : Fin 8) :
    k0_pay16 (k0_pay11 v) (k0_pay12 v) (k0_pay13 v) k0_pay14 (ix3 a b 0) = kscale (yq fun d => v (ix4 0 a b d)) := by
  pointwise [k0_pay16]
  rw [pay7_k]
  rfl

/-- Per element, the scaled value with the lower clip (keys). -/
theorem pay9_k (v : Vec Ideal S1x8x8x128 .bf16) (a : Fin 8) (b : Fin 8) (d : Fin 128) :
    k0_pay17 (k0_pay10 v) (k0_pay11 v) (k0_pay12 v) (k0_pay13 v) k0_pay14 (ix3 a b d)
      = max (Ideal.ofBits .f32 0xC3E00000#32) (v (ix4 0 a b d) * kinv (yq fun d => v (ix4 0 a b d))) := by
  pointwise [k0_pay17]
  rw [pay7_k]
  pointwise [k0_pay10]
  rfl

/-- The codes as stored to the output block (keys). -/
theorem codes_k (v : Vec Ideal S1x8x8x128 .bf16) (z : Fin 1) (a : Fin 8) (b : Fin 8) (d : Fin 128) :
    k0_pay31 (F := Ideal) (Scalar.ofBits .f32 0x43E00000#32) (k0_pay17 (k0_pay10 v) (k0_pay11 v) (k0_pay12 v) (k0_pay13 v) k0_pay14) (ix4 z a b d)
      = kcode (fun d => v (ix4 0 a b d)) d := by
  pointwise [k0_pay31, k0_pay30]
  rw [pay9_k]
  rfl

/-- The codes as stored to the scratch, token-major rows (keys). -/
theorem codes_k_flat (v : Vec Ideal S1x8x8x128 .bf16) (r : Fin 64) (d : Fin 128) :
    k0_pay32 (F := Ideal) (Scalar.ofBits .f32 0x43E00000#32) (k0_pay17 (k0_pay10 v) (k0_pay11 v) (k0_pay12 v) (k0_pay13 v) k0_pay14) (ix2 r d)
      = kcode (fun d => v (ix4 0 ⟨r.val / 8, by omega⟩ ⟨r.val % 8, by omega⟩ d)) d := by
  pointwise [k0_pay32, k0_pay30]
  rw [pay9_k]
  rfl

/-- The scales as stored to the scratch, repeated along the lanes (keys). -/
theorem scales_k_flat (v : Vec Ideal S1x8x8x128 .bf16) (r : Fin 64) (d : Fin 128) :
    k0_pay33 (k0_pay16 (k0_pay11 v) (k0_pay12 v) (k0_pay13 v) k0_pay14) (ix2 r d)
      = kscale (yq fun d => v (ix4 0 ⟨r.val / 8, by omega⟩ ⟨r.val % 8, by omega⟩ d)) := by
  pointwise [k0_pay33]
  rw [pay8_k]

/-- Per row, the largest magnitude times the rounded reciprocal of 448 (values). -/
theorem pay3_v (v : Vec Ideal S1x8x8x128 .bf16) (a : Fin 8) (b : Fin 8) :
    k0_pay19 v (ix3 a b 0) = yq fun d => v (ix4 0 a b d) := by
  pointwise [k0_pay19, k0_pay18]
  rfl

/-- Per row, the exponent the search finds (values). -/
theorem pay7_v (v : Vec Ideal S1x8x8x128 .bf16) (a : Fin 8) (b : Fin 8) :
    k0_pay23 (k0_pay19 v) (k0_pay20 v) (k0_pay21 v) k0_pay22 (ix3 a b 0) = expo (yq fun d => v (ix4 0 a b d)) := by
  rw [← pay3_v]
  rfl

/-- Per row, the power-of-two scale (values). -/
theorem pay8_v (v : Vec Ideal S1x8x8x128 .bf16) (a : Fin 8) (b : Fin 8) :
    k0_pay24 (k0_pay19 v) (k0_pay20 v) (k0_pay21 v) k0_pay22 (ix3 a b 0) = kscale (yq fun d => v (ix4 0 a b d)) := by
  pointwise [k0_pay24]
  rw [pay7_v]
  rfl

/-- Per element, the scaled value with the lower clip (values). -/
theorem pay9_v (v : Vec Ideal S1x8x8x128 .bf16) (a : Fin 8) (b : Fin 8) (d : Fin 128) :
    k0_pay25 (k0_pay18 v) (k0_pay19 v) (k0_pay20 v) (k0_pay21 v) k0_pay22 (ix3 a b d)
      = max (Ideal.ofBits .f32 0xC3E00000#32) (v (ix4 0 a b d) * kinv (yq fun d => v (ix4 0 a b d))) := by
  pointwise [k0_pay25]
  rw [pay7_v]
  pointwise [k0_pay18]
  rfl

/-- The codes as stored to the output block (values). -/
theorem codes_v (v : Vec Ideal S1x8x8x128 .bf16) (z : Fin 1) (a : Fin 8) (b : Fin 8) (d : Fin 128) :
    k0_pay35 (F := Ideal) (Scalar.ofBits .f32 0x43E00000#32) (k0_pay25 (k0_pay18 v) (k0_pay19 v) (k0_pay20 v) (k0_pay21 v) k0_pay22) (ix4 z a b d)
      = kcode (fun d => v (ix4 0 a b d)) d := by
  pointwise [k0_pay35, k0_pay34]
  rw [pay9_v]
  rfl

/-- The codes as stored to the scratch, token-major rows (values). -/
theorem codes_v_flat (v : Vec Ideal S1x8x8x128 .bf16) (r : Fin 64) (d : Fin 128) :
    k0_pay36 (F := Ideal) (Scalar.ofBits .f32 0x43E00000#32) (k0_pay25 (k0_pay18 v) (k0_pay19 v) (k0_pay20 v) (k0_pay21 v) k0_pay22) (ix2 r d)
      = kcode (fun d => v (ix4 0 ⟨r.val / 8, by omega⟩ ⟨r.val % 8, by omega⟩ d)) d := by
  pointwise [k0_pay36, k0_pay34]
  rw [pay9_v]
  rfl

/-- The scales as stored to the scratch, repeated along the lanes (values). -/
theorem scales_v_flat (v : Vec Ideal S1x8x8x128 .bf16) (r : Fin 64) (d : Fin 128) :
    k0_pay37 (k0_pay24 (k0_pay19 v) (k0_pay20 v) (k0_pay21 v) k0_pay22) (ix2 r d)
      = kscale (yq fun d => v (ix4 0 ⟨r.val / 8, by omega⟩ ⟨r.val % 8, by omega⟩ d)) := by
  pointwise [k0_pay37]
  rw [pay8_v]

end Cert.KernelIdeal.Row
-- ==== Proof.Trips.lean ====
module

public import proofs.«01_k».proof.Proof.RowQuant

@[expose] public section

set_option maxRecDepth 16384

noncomputable section
namespace Cert.KernelIdeal.Row
open Cert.KernelIdeal Cert.KernelIdeal.Gen Idealize.ShloMosaic Cert.Quant Idealize.ShloMosaic.TcCoe Idealize.SL.Sem Idealize.ShloMosaic.Tactic

/-- A token's row of a head. -/
def qrow (x0 : Vec Ideal S1x256x24x128 .bf16) (s : Fin 256) (h : Fin 24) : Fin 128 → EReal := fun d => x0 (ix4 0 s h d)

/-- A token's row of a key or value head. -/
def krow (x1 : Vec Ideal S1x256x8x128 .bf16) (s : Fin 256) (h : Fin 8) : Fin 128 → EReal := fun d => x1 (ix4 0 s h d)

/-- The query codes of the block. -/
def GC (x0 : Vec Ideal S1x256x24x128 .bf16) : S1x256x24x128.Idx → EReal := fun j => kcode (qrow x0 (j 1) (j 2)) (j 3)

/-- The query codes as token-major rows. -/
def GF (x0 : Vec Ideal S1x256x24x128 .bf16) : S6144x128.Idx → EReal := fun j =>
  kcode (qrow x0 ⟨(j 0).val / 24, by have : (j 0).val < 6144 := (j 0).isLt; omega⟩ ⟨(j 0).val % 24, by omega⟩) (j 1)

/-- The query scales as token-major rows, repeated along the lanes. -/
def GS (x0 : Vec Ideal S1x256x24x128 .bf16) : S6144x128.Idx → EReal := fun j =>
  kscale (yq (qrow x0 ⟨(j 0).val / 24, by have : (j 0).val < 6144 := (j 0).isLt; omega⟩ ⟨(j 0).val % 24, by omega⟩))

/-- The key (or value) codes of the block. -/
def KC (x1 : Vec Ideal S1x256x8x128 .bf16) : S1x256x8x128.Idx → EReal := fun j => kcode (krow x1 (j 1) (j 2)) (j 3)

/-- The key (or value) codes as token-major rows. -/
def KF (x1 : Vec Ideal S1x256x8x128 .bf16) : S2048x128.Idx → EReal := fun j =>
  kcode (krow x1 ⟨(j 0).val / 8, by have : (j 0).val < 2048 := (j 0).isLt; omega⟩ ⟨(j 0).val % 8, by omega⟩) (j 1)

/-- The key (or value) scales as token-major rows, repeated along the lanes. -/
def KS (x1 : Vec Ideal S1x256x8x128 .bf16) : S2048x128.Idx → EReal := fun j =>
  kscale (yq (krow x1 ⟨(j 0).val / 8, by have : (j 0).val < 2048 := (j 0).isLt; omega⟩ ⟨(j 0).val % 8, by omega⟩))

/-- The rows a trip loads. -/
theorem load_q24 (m : Memref sig .tc .vmem S1x256x24x128 .bf16) (hm : m.IsWhole) (x : Vec Ideal S1x256x24x128 .bf16) (n k : ℕ) (hk : k < 32) (h : n = 8 * k)
    (inb : ∀ a, (![0, n, 0, 0] : Fin 4 → ℕ) a + (![1, 8, 24, 128] : Fin 4 → ℕ) a ≤ S1x256x24x128.size a) (a : Fin 8) (b : Fin 24) (d : Fin 128) :
    View.readAt (Elt Ideal) m.view (Rect.unit (s := S1x256x24x128) ![0, n, 0, 0] ![1, 8, 24, 128] inb).toLoadRect (hm.unread x) (ix4 (0 : Fin 1) a b d : S1x8x24x128.Idx)
      = qrow x ⟨8 * k + a.val, by omega⟩ b d := by
  subst h
  rw [View.readAt_eq_ld, Memref.IsWhole.read_unread]
  unfold qrow
  pointwise

/-- The rows a trip loads. -/
theorem load_k8 (m : Memref sig .tc .vmem S1x256x8x128 .bf16) (hm : m.IsWhole) (x : Vec Ideal S1x256x8x128 .bf16) (n k : ℕ) (hk : k < 32) (h : n = 8 * k)
    (inb : ∀ a, (![0, n, 0, 0] : Fin 4 → ℕ) a + (![1, 8, 8, 128] : Fin 4 → ℕ) a ≤ S1x256x8x128.size a) (a : Fin 8) (b : Fin 8) (d : Fin 128) :
    View.readAt (Elt Ideal) m.view (Rect.unit (s := S1x256x8x128) ![0, n, 0, 0] ![1, 8, 8, 128] inb).toLoadRect (hm.unread x) (ix4 (0 : Fin 1) a b d : S1x8x8x128.Idx)
      = krow x ⟨8 * k + a.val, by omega⟩ b d := by
  subst h
  rw [View.readAt_eq_ld, Memref.IsWhole.read_unread]
  unfold krow
  pointwise

/-- The codes a trip stores to the output block (q). -/
theorem block_q (x : Vec Ideal S1x256x24x128 .bf16) (n k : ℕ) (hk : k < 32) (h : n = 8 * k) (V : Vec Ideal S1x8x24x128 .bf16) (hV : ∀ (a : Fin 8) (b : Fin 24) (d : Fin 128), V (ix4 0 a b d) = qrow x ⟨8 * k + a.val, by omega⟩ b d)
    (inb : ∀ a, (![0, n, 0, 0] : Fin 4 → ℕ) a + (![1, 8, 24, 128] : Fin 4 → ℕ) a ≤ S1x256x24x128.size a)
    (y : (Rect.unit (s := S1x256x24x128) ![0, n, 0, 0] ![1, 8, 24, 128] inb).shape.Idx) :
    k0_pay27 (F := Ideal) (Scalar.ofBits .f32 0x43E00000#32) (k0_pay9 (k0_pay2 V) (k0_pay3 V) (k0_pay4 V) (k0_pay5 V) k0_pay6) y
      = GC x ((Rect.unit (s := S1x256x24x128) ![0, n, 0, 0] ![1, 8, 24, 128] inb).emb y) := by
  subst h
  obtain ⟨z, a, b, d, rfl⟩ : ∃ (z : Fin 1) (a : Fin 8) (b : Fin 24) (d : Fin 128), y = ix4 z a b d :=
    ⟨y 0, y 1, y 2, y 3, by funext a; match a with | 0 => rfl | 1 => rfl | 2 => rfl | 3 => rfl⟩
  refine (codes_q V z a b d).trans ?_
  have e : (fun d => V (ix4 0 a b d)) = qrow x ⟨8 * k + a.val, by omega⟩ b := funext fun d => hV a b d
  rw [e]
  unfold GC
  have e1 : ((Rect.unit (s := S1x256x24x128) ![0, 8 * k, 0, 0] ![1, 8, 24, 128] inb).emb (ix4 z a b d)) 1 = (⟨8 * k + a.val, by omega⟩ : Fin 256) := Fin.ext (congrArg (8 * k + ·) (Nat.one_mul _))
  have e2 : ((Rect.unit (s := S1x256x24x128) ![0, 8 * k, 0, 0] ![1, 8, 24, 128] inb).emb (ix4 z a b d)) 2 = b := Fin.ext ((Nat.zero_add _).trans (Nat.one_mul _))
  have e3 : ((Rect.unit (s := S1x256x24x128) ![0, 8 * k, 0, 0] ![1, 8, 24, 128] inb).emb (ix4 z a b d)) 3 = d := Fin.ext ((Nat.zero_add _).trans (Nat.one_mul _))
  rw [e1, e2, e3]

/-- The codes a trip stores to the scratch (q). -/
theorem flat_q (x : Vec Ideal S1x256x24x128 .bf16) (n k : ℕ) (hk : k < 32) (h : n = 192 * k) (V : Vec Ideal S1x8x24x128 .bf16) (hV : ∀ (a : Fin 8) (b : Fin 24) (d : Fin 128), V (ix4 0 a b d) = qrow x ⟨8 * k + a.val, by omega⟩ b d)
    (inb : ∀ a, (![n, 0] : Fin 2 → ℕ) a + (![192, 128] : Fin 2 → ℕ) a ≤ S6144x128.size a)
    (y : (Rect.unit (s := S6144x128) ![n, 0] ![192, 128] inb).shape.Idx) :
    k0_pay28 (F := Ideal) (Scalar.ofBits .f32 0x43E00000#32) (k0_pay9 (k0_pay2 V) (k0_pay3 V) (k0_pay4 V) (k0_pay5 V) k0_pay6) y
      = GF x ((Rect.unit (s := S6144x128) ![n, 0] ![192, 128] inb).emb y) := by
  subst h
  obtain ⟨r, d, rfl⟩ : ∃ (r : Fin 192) (d : Fin 128), y = ix2 r d :=
    ⟨y 0, y 1, by funext a; match a with | 0 => rfl | 1 => rfl⟩
  refine (codes_q_flat V r d).trans ?_
  have e : (fun d => V (ix4 0 ⟨r.val / 24, by omega⟩ ⟨r.val % 24, by omega⟩ d)) = qrow x ⟨8 * k + r.val / 24, by omega⟩ ⟨r.val % 24, by omega⟩ := funext fun d => hV _ _ d
  rw [e]
  unfold GF
  have e0 : (((Rect.unit (s := S6144x128) ![192 * k, 0] ![192, 128] inb).emb (ix2 r d)) 0).val = 192 * k + r.val := congrArg (192 * k + ·) (Nat.one_mul _)
  have e1 : ((Rect.unit (s := S6144x128) ![192 * k, 0] ![192, 128] inb).emb (ix2 r d)) 1 = d := Fin.ext ((Nat.zero_add _).trans (Nat.one_mul _))
  rw [e1]
  congr 2 <;> apply Fin.ext <;> simp only [e0] <;> omega

/-- The scales a trip stores to the scratch (q). -/
theorem scale_q (x : Vec Ideal S1x256x24x128 .bf16) (n k : ℕ) (hk : k < 32) (h : n = 192 * k) (V : Vec Ideal S1x8x24x128 .bf16) (hV : ∀ (a : Fin 8) (b : Fin 24) (d : Fin 128), V (ix4 0 a b d) = qrow x ⟨8 * k + a.val, by omega⟩ b d)
    (inb : ∀ a, (![n, 0] : Fin 2 → ℕ) a + (![192, 128] : Fin 2 → ℕ) a ≤ S6144x128.size a)
    (y : (Rect.unit (s := S6144x128) ![n, 0] ![192, 128] inb).shape.Idx) :
    k0_pay29 (F := Ideal) (k0_pay8 (k0_pay3 V) (k0_pay4 V) (k0_pay5 V) k0_pay6) y
      = GS x ((Rect.unit (s := S6144x128) ![n, 0] ![192, 128] inb).emb y) := by
  subst h
  obtain ⟨r, d, rfl⟩ : ∃ (r : Fin 192) (d : Fin 128), y = ix2 r d :=
    ⟨y 0, y 1, by funext a; match a with | 0 => rfl | 1 => rfl⟩
  refine (scales_q_flat V r d).trans ?_
  have e : (fun d => V (ix4 0 ⟨r.val / 24, by omega⟩ ⟨r.val % 24, by omega⟩ d)) = qrow x ⟨8 * k + r.val / 24, by omega⟩ ⟨r.val % 24, by omega⟩ := funext fun d => hV _ _ d
  rw [e]
  unfold GS
  have e0 : (((Rect.unit (s := S6144x128) ![192 * k, 0] ![192, 128] inb).emb (ix2 r d)) 0).val = 192 * k + r.val := congrArg (192 * k + ·) (Nat.one_mul _)
  congr 3 <;> apply Fin.ext <;> simp only [e0] <;> omega

/-- The codes a trip stores to the output block (k). -/
theorem block_k (x : Vec Ideal S1x256x8x128 .bf16) (n k : ℕ) (hk : k < 32) (h : n = 8 * k) (V : Vec Ideal S1x8x8x128 .bf16) (hV : ∀ (a : Fin 8) (b : Fin 8) (d : Fin 128), V (ix4 0 a b d) = krow x ⟨8 * k + a.val, by omega⟩ b d)
    (inb : ∀ a, (![0, n, 0, 0] : Fin 4 → ℕ) a + (![1, 8, 8, 128] : Fin 4 → ℕ) a ≤ S1x256x8x128.size a)
    (y : (Rect.unit (s := S1x256x8x128) ![0, n, 0, 0] ![1, 8, 8, 128] inb).shape.Idx) :
    k0_pay31 (F := Ideal) (Scalar.ofBits .f32 0x43E00000#32) (k0_pay17 (k0_pay10 V) (k0_pay11 V) (k0_pay12 V) (k0_pay13 V) k0_pay14) y
      = KC x ((Rect.unit (s := S1x256x8x128) ![0, n, 0, 0] ![1, 8, 8, 128] inb).emb y) := by
  subst h
  obtain ⟨z, a, b, d, rfl⟩ : ∃ (z : Fin 1) (a : Fin 8) (b : Fin 8) (d : Fin 128), y = ix4 z a b d :=
    ⟨y 0, y 1, y 2, y 3, by funext a; match a with | 0 => rfl | 1 => rfl | 2 => rfl | 3 => rfl⟩
  refine (codes_k V z a b d).trans ?_
  have e : (fun d => V (ix4 0 a b d)) = krow x ⟨8 * k + a.val, by omega⟩ b := funext fun d => hV a b d
  rw [e]
  unfold KC
  have e1 : ((Rect.unit (s := S1x256x8x128) ![0, 8 * k, 0, 0] ![1, 8, 8, 128] inb).emb (ix4 z a b d)) 1 = (⟨8 * k + a.val, by omega⟩ : Fin 256) := Fin.ext (congrArg (8 * k + ·) (Nat.one_mul _))
  have e2 : ((Rect.unit (s := S1x256x8x128) ![0, 8 * k, 0, 0] ![1, 8, 8, 128] inb).emb (ix4 z a b d)) 2 = b := Fin.ext ((Nat.zero_add _).trans (Nat.one_mul _))
  have e3 : ((Rect.unit (s := S1x256x8x128) ![0, 8 * k, 0, 0] ![1, 8, 8, 128] inb).emb (ix4 z a b d)) 3 = d := Fin.ext ((Nat.zero_add _).trans (Nat.one_mul _))
  rw [e1, e2, e3]

/-- The codes a trip stores to the scratch (k). -/
theorem flat_k (x : Vec Ideal S1x256x8x128 .bf16) (n k : ℕ) (hk : k < 32) (h : n = 64 * k) (V : Vec Ideal S1x8x8x128 .bf16) (hV : ∀ (a : Fin 8) (b : Fin 8) (d : Fin 128), V (ix4 0 a b d) = krow x ⟨8 * k + a.val, by omega⟩ b d)
    (inb : ∀ a, (![n, 0] : Fin 2 → ℕ) a + (![64, 128] : Fin 2 → ℕ) a ≤ S2048x128.size a)
    (y : (Rect.unit (s := S2048x128) ![n, 0] ![64, 128] inb).shape.Idx) :
    k0_pay32 (F := Ideal) (Scalar.ofBits .f32 0x43E00000#32) (k0_pay17 (k0_pay10 V) (k0_pay11 V) (k0_pay12 V) (k0_pay13 V) k0_pay14) y
      = KF x ((Rect.unit (s := S2048x128) ![n, 0] ![64, 128] inb).emb y) := by
  subst h
  obtain ⟨r, d, rfl⟩ : ∃ (r : Fin 64) (d : Fin 128), y = ix2 r d :=
    ⟨y 0, y 1, by funext a; match a with | 0 => rfl | 1 => rfl⟩
  refine (codes_k_flat V r d).trans ?_
  have e : (fun d => V (ix4 0 ⟨r.val / 8, by omega⟩ ⟨r.val % 8, by omega⟩ d)) = krow x ⟨8 * k + r.val / 8, by omega⟩ ⟨r.val % 8, by omega⟩ := funext fun d => hV _ _ d
  rw [e]
  unfold KF
  have e0 : (((Rect.unit (s := S2048x128) ![64 * k, 0] ![64, 128] inb).emb (ix2 r d)) 0).val = 64 * k + r.val := congrArg (64 * k + ·) (Nat.one_mul _)
  have e1 : ((Rect.unit (s := S2048x128) ![64 * k, 0] ![64, 128] inb).emb (ix2 r d)) 1 = d := Fin.ext ((Nat.zero_add _).trans (Nat.one_mul _))
  rw [e1]
  congr 2 <;> apply Fin.ext <;> simp only [e0] <;> omega

/-- The scales a trip stores to the scratch (k). -/
theorem scale_k (x : Vec Ideal S1x256x8x128 .bf16) (n k : ℕ) (hk : k < 32) (h : n = 64 * k) (V : Vec Ideal S1x8x8x128 .bf16) (hV : ∀ (a : Fin 8) (b : Fin 8) (d : Fin 128), V (ix4 0 a b d) = krow x ⟨8 * k + a.val, by omega⟩ b d)
    (inb : ∀ a, (![n, 0] : Fin 2 → ℕ) a + (![64, 128] : Fin 2 → ℕ) a ≤ S2048x128.size a)
    (y : (Rect.unit (s := S2048x128) ![n, 0] ![64, 128] inb).shape.Idx) :
    k0_pay33 (F := Ideal) (k0_pay16 (k0_pay11 V) (k0_pay12 V) (k0_pay13 V) k0_pay14) y
      = KS x ((Rect.unit (s := S2048x128) ![n, 0] ![64, 128] inb).emb y) := by
  subst h
  obtain ⟨r, d, rfl⟩ : ∃ (r : Fin 64) (d : Fin 128), y = ix2 r d :=
    ⟨y 0, y 1, by funext a; match a with | 0 => rfl | 1 => rfl⟩
  refine (scales_k_flat V r d).trans ?_
  have e : (fun d => V (ix4 0 ⟨r.val / 8, by omega⟩ ⟨r.val % 8, by omega⟩ d)) = krow x ⟨8 * k + r.val / 8, by omega⟩ ⟨r.val % 8, by omega⟩ := funext fun d => hV _ _ d
  rw [e]
  unfold KS
  have e0 : (((Rect.unit (s := S2048x128) ![64 * k, 0] ![64, 128] inb).emb (ix2 r d)) 0).val = 64 * k + r.val := congrArg (64 * k + ·) (Nat.one_mul _)
  congr 3 <;> apply Fin.ext <;> simp only [e0] <;> omega

/-- The codes a trip stores to the output block (v). -/
theorem block_v (x : Vec Ideal S1x256x8x128 .bf16) (n k : ℕ) (hk : k < 32) (h : n = 8 * k) (V : Vec Ideal S1x8x8x128 .bf16) (hV : ∀ (a : Fin 8) (b : Fin 8) (d : Fin 128), V (ix4 0 a b d) = krow x ⟨8 * k + a.val, by omega⟩ b d)
    (inb : ∀ a, (![0, n, 0, 0] : Fin 4 → ℕ) a + (![1, 8, 8, 128] : Fin 4 → ℕ) a ≤ S1x256x8x128.size a)
    (y : (Rect.unit (s := S1x256x8x128) ![0, n, 0, 0] ![1, 8, 8, 128] inb).shape.Idx) :
    k0_pay35 (F := Ideal) (Scalar.ofBits .f32 0x43E00000#32) (k0_pay25 (k0_pay18 V) (k0_pay19 V) (k0_pay20 V) (k0_pay21 V) k0_pay22) y
      = KC x ((Rect.unit (s := S1x256x8x128) ![0, n, 0, 0] ![1, 8, 8, 128] inb).emb y) := by
  subst h
  obtain ⟨z, a, b, d, rfl⟩ : ∃ (z : Fin 1) (a : Fin 8) (b : Fin 8) (d : Fin 128), y = ix4 z a b d :=
    ⟨y 0, y 1, y 2, y 3, by funext a; match a with | 0 => rfl | 1 => rfl | 2 => rfl | 3 => rfl⟩
  refine (codes_v V z a b d).trans ?_
  have e : (fun d => V (ix4 0 a b d)) = krow x ⟨8 * k + a.val, by omega⟩ b := funext fun d => hV a b d
  rw [e]
  unfold KC
  have e1 : ((Rect.unit (s := S1x256x8x128) ![0, 8 * k, 0, 0] ![1, 8, 8, 128] inb).emb (ix4 z a b d)) 1 = (⟨8 * k + a.val, by omega⟩ : Fin 256) := Fin.ext (congrArg (8 * k + ·) (Nat.one_mul _))
  have e2 : ((Rect.unit (s := S1x256x8x128) ![0, 8 * k, 0, 0] ![1, 8, 8, 128] inb).emb (ix4 z a b d)) 2 = b := Fin.ext ((Nat.zero_add _).trans (Nat.one_mul _))
  have e3 : ((Rect.unit (s := S1x256x8x128) ![0, 8 * k, 0, 0] ![1, 8, 8, 128] inb).emb (ix4 z a b d)) 3 = d := Fin.ext ((Nat.zero_add _).trans (Nat.one_mul _))
  rw [e1, e2, e3]

/-- The codes a trip stores to the scratch (v). -/
theorem flat_v (x : Vec Ideal S1x256x8x128 .bf16) (n k : ℕ) (hk : k < 32) (h : n = 64 * k) (V : Vec Ideal S1x8x8x128 .bf16) (hV : ∀ (a : Fin 8) (b : Fin 8) (d : Fin 128), V (ix4 0 a b d) = krow x ⟨8 * k + a.val, by omega⟩ b d)
    (inb : ∀ a, (![n, 0] : Fin 2 → ℕ) a + (![64, 128] : Fin 2 → ℕ) a ≤ S2048x128.size a)
    (y : (Rect.unit (s := S2048x128) ![n, 0] ![64, 128] inb).shape.Idx) :
    k0_pay36 (F := Ideal) (Scalar.ofBits .f32 0x43E00000#32) (k0_pay25 (k0_pay18 V) (k0_pay19 V) (k0_pay20 V) (k0_pay21 V) k0_pay22) y
      = KF x ((Rect.unit (s := S2048x128) ![n, 0] ![64, 128] inb).emb y) := by
  subst h
  obtain ⟨r, d, rfl⟩ : ∃ (r : Fin 64) (d : Fin 128), y = ix2 r d :=
    ⟨y 0, y 1, by funext a; match a with | 0 => rfl | 1 => rfl⟩
  refine (codes_v_flat V r d).trans ?_
  have e : (fun d => V (ix4 0 ⟨r.val / 8, by omega⟩ ⟨r.val % 8, by omega⟩ d)) = krow x ⟨8 * k + r.val / 8, by omega⟩ ⟨r.val % 8, by omega⟩ := funext fun d => hV _ _ d
  rw [e]
  unfold KF
  have e0 : (((Rect.unit (s := S2048x128) ![64 * k, 0] ![64, 128] inb).emb (ix2 r d)) 0).val = 64 * k + r.val := congrArg (64 * k + ·) (Nat.one_mul _)
  have e1 : ((Rect.unit (s := S2048x128) ![64 * k, 0] ![64, 128] inb).emb (ix2 r d)) 1 = d := Fin.ext ((Nat.zero_add _).trans (Nat.one_mul _))
  rw [e1]
  congr 2 <;> apply Fin.ext <;> simp only [e0] <;> omega

/-- The scales a trip stores to the scratch (v). -/
theorem scale_v (x : Vec Ideal S1x256x8x128 .bf16) (n k : ℕ) (hk : k < 32) (h : n = 64 * k) (V : Vec Ideal S1x8x8x128 .bf16) (hV : ∀ (a : Fin 8) (b : Fin 8) (d : Fin 128), V (ix4 0 a b d) = krow x ⟨8 * k + a.val, by omega⟩ b d)
    (inb : ∀ a, (![n, 0] : Fin 2 → ℕ) a + (![64, 128] : Fin 2 → ℕ) a ≤ S2048x128.size a)
    (y : (Rect.unit (s := S2048x128) ![n, 0] ![64, 128] inb).shape.Idx) :
    k0_pay37 (F := Ideal) (k0_pay24 (k0_pay19 V) (k0_pay20 V) (k0_pay21 V) k0_pay22) y
      = KS x ((Rect.unit (s := S2048x128) ![n, 0] ![64, 128] inb).emb y) := by
  subst h
  obtain ⟨r, d, rfl⟩ : ∃ (r : Fin 64) (d : Fin 128), y = ix2 r d :=
    ⟨y 0, y 1, by funext a; match a with | 0 => rfl | 1 => rfl⟩
  refine (scales_v_flat V r d).trans ?_
  have e : (fun d => V (ix4 0 ⟨r.val / 8, by omega⟩ ⟨r.val % 8, by omega⟩ d)) = krow x ⟨8 * k + r.val / 8, by omega⟩ ⟨r.val % 8, by omega⟩ := funext fun d => hV _ _ d
  rw [e]
  unfold KS
  have e0 : (((Rect.unit (s := S2048x128) ![64 * k, 0] ![64, 128] inb).emb (ix2 r d)) 0).val = 64 * k + r.val := congrArg (64 * k + ·) (Nat.one_mul _)
  congr 3 <;> apply Fin.ext <;> simp only [e0] <;> omega

/-- What one trip of the loop stores (q): the codes to the block, the codes and the scales to the scratch. -/
theorem trip1_good (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x24x128 .bf16) (k : Fin k0_t1_loop.trips) :
    (∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) k).1, ∀ y, p.2 y = GC x (p.1.emb y)) ∧
    (∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) k).2.1, ∀ y, p.2 y = GF x (p.1.emb y)) ∧
    (∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) k).2.2.1, ∀ y, p.2 y = GS x (p.1.emb y)) := by
  have hk : k.val < 32 := Nat.lt_of_lt_of_le k.isLt k0_t1_abs.2.1
  unfold trip_k0_t1
  dsimp only
  sl_unfold_words
  refine ⟨?_, ?_, ?_⟩
  · intro p hp y
    simp only [List.mem_singleton] at hp
    subst hp
    exact block_q x _ k.val hk (congrFun (k0_off1_eq k) 1) _ (load_q24 arg1 harg1 x _ k.val hk (congrFun (k0_off1_eq k) 1) (k0_off1_inb k)) (k0_off1_inb k) y
  · intro p hp y
    simp only [List.mem_singleton] at hp
    subst hp
    exact flat_q x _ k.val hk (congrFun (k0_off2_eq k) 0) _ (load_q24 arg1 harg1 x _ k.val hk (congrFun (k0_off1_eq k) 1) (k0_off1_inb k)) (k0_off2_inb k) y
  · intro p hp y
    simp only [List.mem_singleton] at hp
    subst hp
    exact scale_q x _ k.val hk (congrFun (k0_off2_eq k) 0) _ (load_q24 arg1 harg1 x _ k.val hk (congrFun (k0_off1_eq k) 1) (k0_off1_inb k)) (k0_off2_inb k) y

/-- What the first `k` trips of the loop store (q). -/
theorem pb1_good (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x24x128 .bf16) (k : ℕ) (hk : k ≤ k0_t1_loop.trips) :
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) k).1, ∀ y, p.2 y = GC x (p.1.emb y)) ∧
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) k).2.1, ∀ y, p.2 y = GF x (p.1.emb y)) ∧
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) k).2.2, ∀ y, p.2 y = GS x (p.1.emb y)) := by
  induction k with
  | zero =>
    rw [pb_k0_t1.eq_1]
    exact ⟨fun p hp => absurd hp List.not_mem_nil, fun p hp => absurd hp List.not_mem_nil, fun p hp => absurd hp List.not_mem_nil⟩
  | succ k ih =>
    have ih' := ih (by omega)
    have ht := trip1_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x ⟨k, by omega⟩
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) ⟨k, by omega⟩
    dsimp only at e
    rw [e]
    refine ⟨fun p hp => ?_, fun p hp => ?_, fun p hp => ?_⟩ <;> rcases List.mem_append.mp hp with h | h
    · exact ht.1 p h
    · exact ih'.1 p h
    · exact ht.2.1 p h
    · exact ih'.2.1 p h
    · exact ht.2.2 p h
    · exact ih'.2.2 p h

/-- What one trip of the loop stores (k): the codes to the block, the codes and the scales to the scratch. -/
theorem trip2_good (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (k : Fin k0_t2_loop.trips) :
    (∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) k).1, ∀ y, p.2 y = KC x (p.1.emb y)) ∧
    (∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) k).2.1, ∀ y, p.2 y = KF x (p.1.emb y)) ∧
    (∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) k).2.2.1, ∀ y, p.2 y = KS x (p.1.emb y)) := by
  have hk : k.val < 32 := Nat.lt_of_lt_of_le k.isLt k0_t2_abs.2.1
  unfold trip_k0_t2
  dsimp only
  sl_unfold_words
  refine ⟨?_, ?_, ?_⟩
  · intro p hp y
    simp only [List.mem_singleton] at hp
    subst hp
    exact block_k x _ k.val hk (congrFun (k0_off3_eq k) 1) _ (load_k8 arg2 harg2 x _ k.val hk (congrFun (k0_off3_eq k) 1) (k0_off3_inb k)) (k0_off3_inb k) y
  · intro p hp y
    simp only [List.mem_singleton] at hp
    subst hp
    exact flat_k x _ k.val hk (congrFun (k0_off4_eq k) 0) _ (load_k8 arg2 harg2 x _ k.val hk (congrFun (k0_off3_eq k) 1) (k0_off3_inb k)) (k0_off4_inb k) y
  · intro p hp y
    simp only [List.mem_singleton] at hp
    subst hp
    exact scale_k x _ k.val hk (congrFun (k0_off4_eq k) 0) _ (load_k8 arg2 harg2 x _ k.val hk (congrFun (k0_off3_eq k) 1) (k0_off3_inb k)) (k0_off4_inb k) y

/-- What the first `k` trips of the loop store (k). -/
theorem pb2_good (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (k : ℕ) (hk : k ≤ k0_t2_loop.trips) :
    (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) k).1, ∀ y, p.2 y = KC x (p.1.emb y)) ∧
    (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) k).2.1, ∀ y, p.2 y = KF x (p.1.emb y)) ∧
    (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) k).2.2, ∀ y, p.2 y = KS x (p.1.emb y)) := by
  induction k with
  | zero =>
    rw [pb_k0_t2.eq_1]
    exact ⟨fun p hp => absurd hp List.not_mem_nil, fun p hp => absurd hp List.not_mem_nil, fun p hp => absurd hp List.not_mem_nil⟩
  | succ k ih =>
    have ih' := ih (by omega)
    have ht := trip2_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x ⟨k, by omega⟩
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) ⟨k, by omega⟩
    dsimp only at e
    rw [e]
    refine ⟨fun p hp => ?_, fun p hp => ?_, fun p hp => ?_⟩ <;> rcases List.mem_append.mp hp with h | h
    · exact ht.1 p h
    · exact ih'.1 p h
    · exact ht.2.1 p h
    · exact ih'.2.1 p h
    · exact ht.2.2 p h
    · exact ih'.2.2 p h

/-- What one trip of the loop stores (v): the codes to the block, the codes and the scales to the scratch. -/
theorem trip3_good (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (k : Fin k0_t3_loop.trips) :
    (∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) k).1, ∀ y, p.2 y = KC x (p.1.emb y)) ∧
    (∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) k).2.1, ∀ y, p.2 y = KF x (p.1.emb y)) ∧
    (∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) k).2.2.1, ∀ y, p.2 y = KS x (p.1.emb y)) := by
  have hk : k.val < 32 := Nat.lt_of_lt_of_le k.isLt k0_t3_abs.2.1
  unfold trip_k0_t3
  dsimp only
  sl_unfold_words
  refine ⟨?_, ?_, ?_⟩
  · intro p hp y
    simp only [List.mem_singleton] at hp
    subst hp
    exact block_v x _ k.val hk (congrFun (k0_off5_eq k) 1) _ (load_k8 arg3 harg3 x _ k.val hk (congrFun (k0_off5_eq k) 1) (k0_off5_inb k)) (k0_off5_inb k) y
  · intro p hp y
    simp only [List.mem_singleton] at hp
    subst hp
    exact flat_v x _ k.val hk (congrFun (k0_off6_eq k) 0) _ (load_k8 arg3 harg3 x _ k.val hk (congrFun (k0_off5_eq k) 1) (k0_off5_inb k)) (k0_off6_inb k) y
  · intro p hp y
    simp only [List.mem_singleton] at hp
    subst hp
    exact scale_v x _ k.val hk (congrFun (k0_off6_eq k) 0) _ (load_k8 arg3 harg3 x _ k.val hk (congrFun (k0_off5_eq k) 1) (k0_off5_inb k)) (k0_off6_inb k) y

/-- What the first `k` trips of the loop store (v). -/
theorem pb3_good (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (k : ℕ) (hk : k ≤ k0_t3_loop.trips) :
    (∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) k).1, ∀ y, p.2 y = KC x (p.1.emb y)) ∧
    (∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) k).2.1, ∀ y, p.2 y = KF x (p.1.emb y)) ∧
    (∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) k).2.2, ∀ y, p.2 y = KS x (p.1.emb y)) := by
  induction k with
  | zero =>
    rw [pb_k0_t3.eq_1]
    exact ⟨fun p hp => absurd hp List.not_mem_nil, fun p hp => absurd hp List.not_mem_nil, fun p hp => absurd hp List.not_mem_nil⟩
  | succ k ih =>
    have ih' := ih (by omega)
    have ht := trip3_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x ⟨k, by omega⟩
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) ⟨k, by omega⟩
    dsimp only at e
    rw [e]
    refine ⟨fun p hp => ?_, fun p hp => ?_, fun p hp => ?_⟩ <;> rcases List.mem_append.mp hp with h | h
    · exact ht.1 p h
    · exact ih'.1 p h
    · exact ht.2.1 p h
    · exact ih'.2.1 p h
    · exact ht.2.2 p h
    · exact ih'.2.2 p h

end Cert.KernelIdeal.Row
-- ==== Proof.Reads.lean ====
module

public import proofs.«01_k».proof.Proof.Trips
public import proofs.«01_k».proof.Proof.Gen.KernelIdeal.Frame

@[expose] public section

set_option maxRecDepth 16384

noncomputable section
namespace Cert.KernelIdeal.Row
open Cert.KernelIdeal Cert.KernelIdeal.Gen Idealize.ShloMosaic Cert.Quant Idealize.ShloMosaic.TcCoe Idealize.SL.Sem Idealize.ShloMosaic.Tactic

/-- The scales of one head's tokens, repeated along the lanes. -/
def SQ (x0 : Vec Ideal S1x256x24x128 .bf16) (h : Fin 24) : Vec Ideal S256x128 .f32 := fun j => kscale (yq (qrow x0 (j 0) h))

/-- The codes of one head's tokens. -/
def CQ (x0 : Vec Ideal S1x256x24x128 .bf16) (h : Fin 24) : Vec Ideal S256x128 .f32 := fun j => kcode (qrow x0 (j 0) h) (j 1)

/-- The scales of one key or value head's tokens, repeated along the lanes. -/
def SK (x1 : Vec Ideal S1x256x8x128 .bf16) (h : Fin 8) : Vec Ideal S256x128 .f32 := fun j => kscale (yq (krow x1 (j 0) h))

/-- The codes of one key or value head's tokens. -/
def CK (x1 : Vec Ideal S1x256x8x128 .bf16) (h : Fin 8) : Vec Ideal S256x128 .f32 := fun j => kcode (krow x1 (j 0) h) (j 1)

/-- A strided load of the scratch after the loop reads one head of all tokens. -/
theorem ld_cq (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x24x128 .bf16) (h : ℕ) (hh : h < 24) (inb) :
    arg15.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) (Scf.trips k0_t1_loop.lb k0_t1_loop.ub k0_t1_loop.st)).2.1 ⟨![h, 0], S256x128.size, ![24, 1], inb⟩ = CQ x ⟨h, hh⟩ := by
  rw [View.readCov_eq_canon']
  funext j
  refine (View.canon_apply_of_pieces (GF x) _ (pb1_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x _ (le_refl _)).2.1 _
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) (Scf.trips k0_t1_loop.lb k0_t1_loop.ub k0_t1_loop.st)).2.1 S192x128.size (by sl_kernel_rfl) _)).trans ?_
  unfold GF CQ
  have hj : (j 0).val < 256 := (j 0).isLt
  have e0 : ((LoadRect.idx (s := S6144x128) ⟨![h, 0], S256x128.size, ![24, 1], inb⟩ j) 0).val = h + 24 * (j 0).val := rfl
  have e1 : ((LoadRect.idx (s := S6144x128) ⟨![h, 0], S256x128.size, ![24, 1], inb⟩ j) 1) = j 1 := Fin.ext ((Nat.zero_add _).trans (Nat.one_mul _))
  have d0 : ∀ p, (⟨((LoadRect.idx (s := S6144x128) ⟨![h, 0], S256x128.size, ![24, 1], inb⟩ j) 0).val / 24, p⟩ : Fin 256) = j 0 := fun p => Fin.ext (by simp only [e0]; omega)
  have d1 : ∀ p, (⟨((LoadRect.idx (s := S6144x128) ⟨![h, 0], S256x128.size, ![24, 1], inb⟩ j) 0).val % 24, p⟩ : Fin 24) = ⟨h, hh⟩ := fun p => Fin.ext (by simp only [e0]; omega)
  simp only [d0, d1, e1]

/-- A strided load of the scratch after the loop reads one head of all tokens. -/
theorem ld_sq (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x24x128 .bf16) (h : ℕ) (hh : h < 24) (inb) :
    arg16.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) (Scf.trips k0_t1_loop.lb k0_t1_loop.ub k0_t1_loop.st)).2.2 ⟨![h, 0], S256x128.size, ![24, 1], inb⟩ = SQ x ⟨h, hh⟩ := by
  rw [View.readCov_eq_canon']
  funext j
  refine (View.canon_apply_of_pieces (GS x) _ (pb1_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x _ (le_refl _)).2.2 _
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) (Scf.trips k0_t1_loop.lb k0_t1_loop.ub k0_t1_loop.st)).2.2 S192x128.size (by sl_kernel_rfl) _)).trans ?_
  unfold GS SQ
  have hj : (j 0).val < 256 := (j 0).isLt
  have e0 : ((LoadRect.idx (s := S6144x128) ⟨![h, 0], S256x128.size, ![24, 1], inb⟩ j) 0).val = h + 24 * (j 0).val := rfl
  have e1 : ((LoadRect.idx (s := S6144x128) ⟨![h, 0], S256x128.size, ![24, 1], inb⟩ j) 1) = j 1 := Fin.ext ((Nat.zero_add _).trans (Nat.one_mul _))
  have d0 : ∀ p, (⟨((LoadRect.idx (s := S6144x128) ⟨![h, 0], S256x128.size, ![24, 1], inb⟩ j) 0).val / 24, p⟩ : Fin 256) = j 0 := fun p => Fin.ext (by simp only [e0]; omega)
  have d1 : ∀ p, (⟨((LoadRect.idx (s := S6144x128) ⟨![h, 0], S256x128.size, ![24, 1], inb⟩ j) 0).val % 24, p⟩ : Fin 24) = ⟨h, hh⟩ := fun p => Fin.ext (by simp only [e0]; omega)
  simp only [d0, d1, e1]

/-- A strided load of the scratch after the loop reads one head of all tokens. -/
theorem ld_ck (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg17.view.readCov (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) (Scf.trips k0_t2_loop.lb k0_t2_loop.ub k0_t2_loop.st)).2.1 ⟨![h, 0], S256x128.size, ![8, 1], inb⟩ = CK x ⟨h, hh⟩ := by
  rw [View.readCov_eq_canon']
  funext j
  refine (View.canon_apply_of_pieces (KF x) _ (pb2_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x _ (le_refl _)).2.1 _
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) (Scf.trips k0_t2_loop.lb k0_t2_loop.ub k0_t2_loop.st)).2.1 S64x128.size (by sl_kernel_rfl) _)).trans ?_
  unfold KF CK
  have hj : (j 0).val < 256 := (j 0).isLt
  have e0 : ((LoadRect.idx (s := S2048x128) ⟨![h, 0], S256x128.size, ![8, 1], inb⟩ j) 0).val = h + 8 * (j 0).val := rfl
  have e1 : ((LoadRect.idx (s := S2048x128) ⟨![h, 0], S256x128.size, ![8, 1], inb⟩ j) 1) = j 1 := Fin.ext ((Nat.zero_add _).trans (Nat.one_mul _))
  have d0 : ∀ p, (⟨((LoadRect.idx (s := S2048x128) ⟨![h, 0], S256x128.size, ![8, 1], inb⟩ j) 0).val / 8, p⟩ : Fin 256) = j 0 := fun p => Fin.ext (by simp only [e0]; omega)
  have d1 : ∀ p, (⟨((LoadRect.idx (s := S2048x128) ⟨![h, 0], S256x128.size, ![8, 1], inb⟩ j) 0).val % 8, p⟩ : Fin 8) = ⟨h, hh⟩ := fun p => Fin.ext (by simp only [e0]; omega)
  simp only [d0, d1, e1]

/-- A strided load of the scratch after the loop reads one head of all tokens. -/
theorem ld_sk (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg18.view.readCov (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) (Scf.trips k0_t2_loop.lb k0_t2_loop.ub k0_t2_loop.st)).2.2 ⟨![h, 0], S256x128.size, ![8, 1], inb⟩ = SK x ⟨h, hh⟩ := by
  rw [View.readCov_eq_canon']
  funext j
  refine (View.canon_apply_of_pieces (KS x) _ (pb2_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x _ (le_refl _)).2.2 _
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) (Scf.trips k0_t2_loop.lb k0_t2_loop.ub k0_t2_loop.st)).2.2 S64x128.size (by sl_kernel_rfl) _)).trans ?_
  unfold KS SK
  have hj : (j 0).val < 256 := (j 0).isLt
  have e0 : ((LoadRect.idx (s := S2048x128) ⟨![h, 0], S256x128.size, ![8, 1], inb⟩ j) 0).val = h + 8 * (j 0).val := rfl
  have e1 : ((LoadRect.idx (s := S2048x128) ⟨![h, 0], S256x128.size, ![8, 1], inb⟩ j) 1) = j 1 := Fin.ext ((Nat.zero_add _).trans (Nat.one_mul _))
  have d0 : ∀ p, (⟨((LoadRect.idx (s := S2048x128) ⟨![h, 0], S256x128.size, ![8, 1], inb⟩ j) 0).val / 8, p⟩ : Fin 256) = j 0 := fun p => Fin.ext (by simp only [e0]; omega)
  have d1 : ∀ p, (⟨((LoadRect.idx (s := S2048x128) ⟨![h, 0], S256x128.size, ![8, 1], inb⟩ j) 0).val % 8, p⟩ : Fin 8) = ⟨h, hh⟩ := fun p => Fin.ext (by simp only [e0]; omega)
  simp only [d0, d1, e1]

/-- A strided load of the scratch after the loop reads one head of all tokens. -/
theorem ld_cv (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg19.view.readCov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) (Scf.trips k0_t3_loop.lb k0_t3_loop.ub k0_t3_loop.st)).2.1 ⟨![h, 0], S256x128.size, ![8, 1], inb⟩ = CK x ⟨h, hh⟩ := by
  rw [View.readCov_eq_canon']
  funext j
  refine (View.canon_apply_of_pieces (KF x) _ (pb3_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x _ (le_refl _)).2.1 _
    (View.cover_of_tiledL (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) (Scf.trips k0_t3_loop.lb k0_t3_loop.ub k0_t3_loop.st)).2.1 S64x128.size (by sl_kernel_rfl) _)).trans ?_
  unfold KF CK
  have hj : (j 0).val < 256 := (j 0).isLt
  have e0 : ((LoadRect.idx (s := S2048x128) ⟨![h, 0], S256x128.size, ![8, 1], inb⟩ j) 0).val = h + 8 * (j 0).val := rfl
  have e1 : ((LoadRect.idx (s := S2048x128) ⟨![h, 0], S256x128.size, ![8, 1], inb⟩ j) 1) = j 1 := Fin.ext ((Nat.zero_add _).trans (Nat.one_mul _))
  have d0 : ∀ p, (⟨((LoadRect.idx (s := S2048x128) ⟨![h, 0], S256x128.size, ![8, 1], inb⟩ j) 0).val / 8, p⟩ : Fin 256) = j 0 := fun p => Fin.ext (by simp only [e0]; omega)
  have d1 : ∀ p, (⟨((LoadRect.idx (s := S2048x128) ⟨![h, 0], S256x128.size, ![8, 1], inb⟩ j) 0).val % 8, p⟩ : Fin 8) = ⟨h, hh⟩ := fun p => Fin.ext (by simp only [e0]; omega)
  simp only [d0, d1, e1]

/-- A strided load of the scratch after the loop reads one head of all tokens. -/
theorem ld_sv (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg20.view.readCov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) (Scf.trips k0_t3_loop.lb k0_t3_loop.ub k0_t3_loop.st)).2.2 ⟨![h, 0], S256x128.size, ![8, 1], inb⟩ = SK x ⟨h, hh⟩ := by
  rw [View.readCov_eq_canon']
  funext j
  refine (View.canon_apply_of_pieces (KS x) _ (pb3_good 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x _ (le_refl _)).2.2 _
    (View.cover_of_tiledL (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) (Scf.trips k0_t3_loop.lb k0_t3_loop.ub k0_t3_loop.st)).2.2 S64x128.size (by sl_kernel_rfl) _)).trans ?_
  unfold KS SK
  have hj : (j 0).val < 256 := (j 0).isLt
  have e0 : ((LoadRect.idx (s := S2048x128) ⟨![h, 0], S256x128.size, ![8, 1], inb⟩ j) 0).val = h + 8 * (j 0).val := rfl
  have e1 : ((LoadRect.idx (s := S2048x128) ⟨![h, 0], S256x128.size, ![8, 1], inb⟩ j) 1) = j 1 := Fin.ext ((Nat.zero_add _).trans (Nat.one_mul _))
  have d0 : ∀ p, (⟨((LoadRect.idx (s := S2048x128) ⟨![h, 0], S256x128.size, ![8, 1], inb⟩ j) 0).val / 8, p⟩ : Fin 256) = j 0 := fun p => Fin.ext (by simp only [e0]; omega)
  have d1 : ∀ p, (⟨((LoadRect.idx (s := S2048x128) ⟨![h, 0], S256x128.size, ![8, 1], inb⟩ j) 0).val % 8, p⟩ : Fin 8) = ⟨h, hh⟩ := fun p => Fin.ext (by simp only [e0]; omega)
  simp only [d0, d1, e1]

end Cert.KernelIdeal.Row
-- ==== Proof.Heads.lean ====
module

public import proofs.«01_k».proof.Proof.Reads

@[expose] public section

set_option pp.maxSteps 10000000
set_option maxRecDepth 16384

noncomputable section
namespace Cert.KernelIdeal.Row
open Cert.KernelIdeal Cert.KernelIdeal.Gen Idealize.ShloMosaic Cert.Quant Idealize.ShloMosaic.TcCoe Idealize.SL.Sem Idealize.ShloMosaic.Tactic

/-- One head's masked score of token `s` against token `t`: the product of the codes, times the two scales, times
    1/sqrt 128; minus infinity where `t` comes later. -/
def score (q k : Fin 256 → Fin 128 → EReal) (qs ks : Fin 256 → EReal) (s t : Fin 256) : EReal :=
  Scalar.select (IntOp.cmpi .sgt (BitVec.ofNat 32 t.val) (BitVec.ofNat 32 s.val)) (Ideal.ofBits .f32 0xFF800000#32)
    ((∑ d, q s d * k t d) * qs s * ks t * Ideal.ofBits .f32 0x3DB504F3#32)

/-- The largest score of a token. -/
def top (q k : Fin 256 → Fin 128 → EReal) (qs ks : Fin 256 → EReal) (s : Fin 256) : EReal :=
  Finset.univ.fold max (Ideal.ofBits .f32 0xFF800000#32) (score q k qs ks s)

/-- One head's output: the softmax of the scores, times the value scales, times the value codes. -/
def attn (q k v : Fin 256 → Fin 128 → EReal) (qs ks vs : Fin 256 → EReal) (s : Fin 256) (d : Fin 128) : EReal :=
  ∑ t, Ideal.div (Ideal.exp (score q k qs ks s t - top q k qs ks s)) (∑ t, Ideal.exp (score q k qs ks s t - top q k qs ks s)) * vs t * v t d

/-- The mask: the key's position after the query's. -/
def future : IVec S256x256 1 := cmpi .sgt (iota .tc S256x256 32 [1] iota_S256x256_d1_w32) (iota .tc S256x256 32 [0] iota_S256x256_d0_w32)

/-- One head's attention over whole vectors: the scores, their softmax, the scaled weights times the value codes. -/
def tower (W : IVec S256x256 1) (Kc Vc : Vec Ideal S256x128 .f32) (KR VR : FVec Ideal S1x256 .f32) (Q Sq : Vec Ideal S256x128 .f32) : FVec Ideal S1x1x256x128 .f32 :=
  k0_pay269 W (k0_pay258 Kc) (k0_pay259 Vc) KR VR Q Sq

/-- The tower at an element is the attention of that token. -/
theorem tower_apply (Kc Vc : Vec Ideal S256x128 .f32) (KR VR : FVec Ideal S1x256 .f32) (Q Sq : Vec Ideal S256x128 .f32) (z w : Fin 1) (s : Fin 256) (d : Fin 128) :
    tower future Kc Vc KR VR Q Sq (ix4 z w s d) = attn (fun s d => Q (ix2 s d)) (fun s d => Kc (ix2 s d)) (fun s d => Vc (ix2 s d))
      (fun s => Sq (ix2 s 0)) (fun t => KR (ix2 0 t)) (fun t => VR (ix2 0 t)) s d := by
  unfold tower future
  pointwise [k0_pay269, k0_pay258, k0_pay259, k0_pay1]
  rfl

/-- Head 0's operations are the tower's. -/
theorem head0 (W : IVec S256x256 1) (KT VT : FVec Ideal S128x256 .f32) (Kc Vc Q Sq : Vec Ideal S256x128 .f32) :
    k0_pay169 KT VT W Kc Vc Q Sq
      = tower W Kc Vc (extractStridedSlice S1x256 ![0, 0] KT slices_S128x256_o0_0_S1x256) (extractStridedSlice S1x256 ![0, 0] VT slices_S128x256_o0_0_S1x256) Q Sq := rfl

/-- Head 1's operations are the tower's. -/
theorem head1 (W : IVec S256x256 1) (KT VT : FVec Ideal S128x256 .f32) (Kc Vc Q Sq : Vec Ideal S256x128 .f32) :
    k0_pay173 (k0_pay172 W (k0_pay165 Kc) (k0_pay166 Vc) (k0_pay167 KT) (k0_pay168 VT) Q Sq)
      = tower W Kc Vc (extractStridedSlice S1x256 ![0, 0] KT slices_S128x256_o0_0_S1x256) (extractStridedSlice S1x256 ![0, 0] VT slices_S128x256_o0_0_S1x256) Q Sq := rfl

/-- Head 2's operations are the tower's. -/
theorem head2 (W : IVec S256x256 1) (KT VT : FVec Ideal S128x256 .f32) (Kc Vc Q Sq : Vec Ideal S256x128 .f32) :
    k0_pay176 (k0_pay166 Vc) (k0_pay175 W (k0_pay165 Kc) (k0_pay167 KT) (k0_pay168 VT) Q Sq)
      = tower W Kc Vc (extractStridedSlice S1x256 ![0, 0] KT slices_S128x256_o0_0_S1x256) (extractStridedSlice S1x256 ![0, 0] VT slices_S128x256_o0_0_S1x256) Q Sq := rfl

/-- Head 3's operations are the tower's. -/
theorem head3 (W : IVec S256x256 1) (KT VT : FVec Ideal S128x256 .f32) (Kc Vc Q Sq : Vec Ideal S256x128 .f32) :
    k0_pay184 W (k0_pay179 Vc) (k0_pay181 VT) (k0_pay182 KT Kc Q Sq) k0_pay183
      = tower W Kc Vc (extractStridedSlice S1x256 ![1, 0] KT slices_S128x256_o1_0_S1x256) (extractStridedSlice S1x256 ![1, 0] VT slices_S128x256_o1_0_S1x256) Q Sq := rfl

/-- Head 4's operations are the tower's. -/
theorem head4 (W : IVec S256x256 1) (KT VT : FVec Ideal S128x256 .f32) (Kc Vc Q Sq : Vec Ideal S256x128 .f32) :
    k0_pay188 W (k0_pay178 Kc) (k0_pay179 Vc) (k0_pay180 KT) (k0_pay181 VT) (k0_pay186 Sq) (k0_pay187 Q) (constant S256x256 FTy.f32 0#32)
      = tower W Kc Vc (extractStridedSlice S1x256 ![1, 0] KT slices_S128x256_o1_0_S1x256) (extractStridedSlice S1x256 ![1, 0] VT slices_S128x256_o1_0_S1x256) Q Sq := rfl

/-- Head 5's operations are the tower's. -/
theorem head5 (W : IVec S256x256 1) (KT VT : FVec Ideal S128x256 .f32) (Kc Vc Q Sq : Vec Ideal S256x128 .f32) :
    k0_pay190 W (k0_pay178 Kc) (k0_pay179 Vc) (k0_pay180 KT) (k0_pay181 VT) Q Sq
      = tower W Kc Vc (extractStridedSlice S1x256 ![1, 0] KT slices_S128x256_o1_0_S1x256) (extractStridedSlice S1x256 ![1, 0] VT slices_S128x256_o1_0_S1x256) Q Sq := rfl

/-- Head 6's operations are the tower's. -/
theorem head6 (W : IVec S256x256 1) (KT VT : FVec Ideal S128x256 .f32) (Kc Vc Q Sq : Vec Ideal S256x128 .f32) :
    k0_pay197 KT VT W Kc Vc Q Sq
      = tower W Kc Vc (extractStridedSlice S1x256 ![2, 0] KT slices_S128x256_o2_0_S1x256) (extractStridedSlice S1x256 ![2, 0] VT slices_S128x256_o2_0_S1x256) Q Sq := rfl

/-- Head 7's operations are the tower's. -/
theorem head7 (W : IVec S256x256 1) (KT VT : FVec Ideal S128x256 .f32) (Kc Vc Q Sq : Vec Ideal S256x128 .f32) :
    k0_pay200 (k0_pay199 W (k0_pay193 Kc) (k0_pay194 Vc) (k0_pay195 KT) (k0_pay196 VT) Q Sq)
      = tower W Kc Vc (extractStridedSlice S1x256 ![2, 0] KT slices_S128x256_o2_0_S1x256) (extractStridedSlice S1x256 ![2, 0] VT slices_S128x256_o2_0_S1x256) Q Sq := rfl

/-- Head 8's operations are the tower's. -/
theorem head8 (W : IVec S256x256 1) (KT VT : FVec Ideal S128x256 .f32) (Kc Vc Q Sq : Vec Ideal S256x128 .f32) :
    k0_pay203 (k0_pay194 Vc) (k0_pay196 VT) (k0_pay202 W (k0_pay193 Kc) (k0_pay195 KT) Q Sq)
      = tower W Kc Vc (extractStridedSlice S1x256 ![2, 0] KT slices_S128x256_o2_0_S1x256) (extractStridedSlice S1x256 ![2, 0] VT slices_S128x256_o2_0_S1x256) Q Sq := rfl

/-- Head 9's operations are the tower's. -/
theorem head9 (W : IVec S256x256 1) (KT VT : FVec Ideal S128x256 .f32) (Kc Vc Q Sq : Vec Ideal S256x128 .f32) :
    k0_pay210 W (k0_pay206 Vc) (k0_pay208 VT) (k0_pay209 KT Kc Q Sq)
      = tower W Kc Vc (extractStridedSlice S1x256 ![3, 0] KT slices_S128x256_o3_0_S1x256) (extractStridedSlice S1x256 ![3, 0] VT slices_S128x256_o3_0_S1x256) Q Sq := rfl

/-- Head 10's operations are the tower's. -/
theorem head10 (W : IVec S256x256 1) (KT VT : FVec Ideal S128x256 .f32) (Kc Vc Q Sq : Vec Ideal S256x128 .f32) :
    k0_pay213 W (k0_pay205 Kc) (k0_pay206 Vc) (k0_pay207 KT) (k0_pay208 VT) Q (k0_pay212 Sq)
      = tower W Kc Vc (extractStridedSlice S1x256 ![3, 0] KT slices_S128x256_o3_0_S1x256) (extractStridedSlice S1x256 ![3, 0] VT slices_S128x256_o3_0_S1x256) Q Sq := rfl

/-- Head 11's operations are the tower's. -/
theorem head11 (W : IVec S256x256 1) (KT VT : FVec Ideal S128x256 .f32) (Kc Vc Q Sq : Vec Ideal S256x128 .f32) :
    k0_pay215 W (k0_pay205 Kc) (k0_pay206 Vc) (k0_pay207 KT) (k0_pay208 VT) Q Sq
      = tower W Kc Vc (extractStridedSlice S1x256 ![3, 0] KT slices_S128x256_o3_0_S1x256) (extractStridedSlice S1x256 ![3, 0] VT slices_S128x256_o3_0_S1x256) Q Sq := rfl

/-- Head 12's operations are the tower's. -/
theorem head12 (W : IVec S256x256 1) (KT VT : FVec Ideal S128x256 .f32) (Kc Vc Q Sq : Vec Ideal S256x128 .f32) :
    k0_pay222 KT VT W Kc Vc Q Sq
      = tower W Kc Vc (extractStridedSlice S1x256 ![4, 0] KT slices_S128x256_o4_0_S1x256) (extractStridedSlice S1x256 ![4, 0] VT slices_S128x256_o4_0_S1x256) Q Sq := rfl

/-- Head 13's operations are the tower's. -/
theorem head13 (W : IVec S256x256 1) (KT VT : FVec Ideal S128x256 .f32) (Kc Vc Q Sq : Vec Ideal S256x128 .f32) :
    k0_pay225 (k0_pay224 W (k0_pay218 Kc) (k0_pay219 Vc) (k0_pay220 KT) (k0_pay221 VT) Q Sq)
      = tower W Kc Vc (extractStridedSlice S1x256 ![4, 0] KT slices_S128x256_o4_0_S1x256) (extractStridedSlice S1x256 ![4, 0] VT slices_S128x256_o4_0_S1x256) Q Sq := rfl

/-- Head 14's operations are the tower's. -/
theorem head14 (W : IVec S256x256 1) (KT VT : FVec Ideal S128x256 .f32) (Kc Vc Q Sq : Vec Ideal S256x128 .f32) :
    k0_pay229 (k0_pay219 Vc) (k0_pay221 VT) (k0_pay227 W (k0_pay218 Kc) (k0_pay220 KT) Q Sq) (k0_pay228 W (k0_pay218 Kc) (k0_pay220 KT) Q Sq)
      = tower W Kc Vc (extractStridedSlice S1x256 ![4, 0] KT slices_S128x256_o4_0_S1x256) (extractStridedSlice S1x256 ![4, 0] VT slices_S128x256_o4_0_S1x256) Q Sq := rfl

/-- Head 15's operations are the tower's. -/
theorem head15 (W : IVec S256x256 1) (KT VT : FVec Ideal S128x256 .f32) (Kc Vc Q Sq : Vec Ideal S256x128 .f32) :
    k0_pay236 W (k0_pay232 Vc) (k0_pay233 KT) (k0_pay234 VT) (k0_pay235 Kc Q Sq)
      = tower W Kc Vc (extractStridedSlice S1x256 ![5, 0] KT slices_S128x256_o5_0_S1x256) (extractStridedSlice S1x256 ![5, 0] VT slices_S128x256_o5_0_S1x256) Q Sq := rfl

/-- Head 16's operations are the tower's. -/
theorem head16 (W : IVec S256x256 1) (KT VT : FVec Ideal S128x256 .f32) (Kc Vc Q Sq : Vec Ideal S256x128 .f32) :
    k0_pay238 W (k0_pay231 Kc) (k0_pay232 Vc) (k0_pay233 KT) (k0_pay234 VT) Q Sq
      = tower W Kc Vc (extractStridedSlice S1x256 ![5, 0] KT slices_S128x256_o5_0_S1x256) (extractStridedSlice S1x256 ![5, 0] VT slices_S128x256_o5_0_S1x256) Q Sq := rfl

/-- Head 17's operations are the tower's. -/
theorem head17 (W : IVec S256x256 1) (KT VT : FVec Ideal S128x256 .f32) (Kc Vc Q Sq : Vec Ideal S256x128 .f32) :
    k0_pay241 W (k0_pay231 Kc) (k0_pay232 Vc) (k0_pay233 KT) (k0_pay234 VT) Q Sq
      = tower W Kc Vc (extractStridedSlice S1x256 ![5, 0] KT slices_S128x256_o5_0_S1x256) (extractStridedSlice S1x256 ![5, 0] VT slices_S128x256_o5_0_S1x256) Q Sq := rfl

/-- Head 18's operations are the tower's. -/
theorem head18 (W : IVec S256x256 1) (KT VT : FVec Ideal S128x256 .f32) (Kc Vc Q Sq : Vec Ideal S256x128 .f32) :
    k0_pay250 (k0_pay249 KT VT W Kc Vc Q Sq)
      = tower W Kc Vc (extractStridedSlice S1x256 ![6, 0] KT slices_S128x256_o6_0_S1x256) (extractStridedSlice S1x256 ![6, 0] VT slices_S128x256_o6_0_S1x256) Q Sq := rfl

/-- Head 19's operations are the tower's. -/
theorem head19 (W : IVec S256x256 1) (KT VT : FVec Ideal S128x256 .f32) (Kc Vc Q Sq : Vec Ideal S256x128 .f32) :
    k0_pay253 (k0_pay246 Vc) (k0_pay252 W (k0_pay245 Kc) (k0_pay247 KT) (k0_pay248 VT) Q Sq)
      = tower W Kc Vc (extractStridedSlice S1x256 ![6, 0] KT slices_S128x256_o6_0_S1x256) (extractStridedSlice S1x256 ![6, 0] VT slices_S128x256_o6_0_S1x256) Q Sq := rfl

/-- Head 20's operations are the tower's. -/
theorem head20 (W : IVec S256x256 1) (KT VT : FVec Ideal S128x256 .f32) (Kc Vc Q Sq : Vec Ideal S256x128 .f32) :
    k0_pay256 (k0_pay246 Vc) (k0_pay248 VT) (k0_pay255 W (k0_pay245 Kc) (k0_pay247 KT) Q Sq)
      = tower W Kc Vc (extractStridedSlice S1x256 ![6, 0] KT slices_S128x256_o6_0_S1x256) (extractStridedSlice S1x256 ![6, 0] VT slices_S128x256_o6_0_S1x256) Q Sq := rfl

/-- Head 21's operations are the tower's. -/
theorem head21 (W : IVec S256x256 1) (KT VT : FVec Ideal S128x256 .f32) (Kc Vc Q Sq : Vec Ideal S256x128 .f32) :
    k0_pay264 W (k0_pay259 Vc) (k0_pay260 KT) (k0_pay261 VT) (k0_pay262 Sq) (k0_pay263 Kc Q)
      = tower W Kc Vc (extractStridedSlice S1x256 ![7, 0] KT slices_S128x256_o7_0_S1x256) (extractStridedSlice S1x256 ![7, 0] VT slices_S128x256_o7_0_S1x256) Q Sq := rfl

/-- Head 22's operations are the tower's. -/
theorem head22 (W : IVec S256x256 1) (KT VT : FVec Ideal S128x256 .f32) (Kc Vc Q Sq : Vec Ideal S256x128 .f32) :
    k0_pay266 W (k0_pay258 Kc) (k0_pay259 Vc) (k0_pay260 KT) (k0_pay261 VT) Q Sq
      = tower W Kc Vc (extractStridedSlice S1x256 ![7, 0] KT slices_S128x256_o7_0_S1x256) (extractStridedSlice S1x256 ![7, 0] VT slices_S128x256_o7_0_S1x256) Q Sq := rfl

/-- Head 23's operations are the tower's. -/
theorem head23 (W : IVec S256x256 1) (KT VT : FVec Ideal S128x256 .f32) (Kc Vc Q Sq : Vec Ideal S256x128 .f32) :
    k0_pay269 W (k0_pay258 Kc) (k0_pay259 Vc) (k0_pay260 KT) (k0_pay261 VT) Q Sq
      = tower W Kc Vc (extractStridedSlice S1x256 ![7, 0] KT slices_S128x256_o7_0_S1x256) (extractStridedSlice S1x256 ![7, 0] VT slices_S128x256_o7_0_S1x256) Q Sq := rfl

/-- The lane-by-lane selection of the heads' scales (q). -/
def gather_q (A : Fin 24 → Vec Ideal S256x128 .f32) : FVec Ideal S256x128 .f32 :=
  (k0_pay43 (iota .tc S256x128 32 [1] iota_S256x128_d1_w32) (select (cmpi .eq (iota .tc S256x128 32 [1] iota_S256x128_d1_w32) (broadcast S256x128 21#32)) (A 21) (select (cmpi .eq (iota .tc S256x128 32 [1] iota_S256x128_d1_w32) (broadcast S256x128 20#32)) (A 20) (select (cmpi .eq (iota .tc S256x128 32 [1] iota_S256x128_d1_w32) (broadcast S256x128 19#32)) (A 19) (select (cmpi .eq (iota .tc S256x128 32 [1] iota_S256x128_d1_w32) (broadcast S256x128 18#32)) (A 18) (select (cmpi .eq (iota .tc S256x128 32 [1] iota_S256x128_d1_w32) (broadcast S256x128 17#32)) (A 17) (select (cmpi .eq (iota .tc S256x128 32 [1] iota_S256x128_d1_w32) (broadcast S256x128 16#32)) (A 16) (select (cmpi .eq (iota .tc S256x128 32 [1] iota_S256x128_d1_w32) (broadcast S256x128 15#32)) (A 15) (select (cmpi .eq (iota .tc S256x128 32 [1] iota_S256x128_d1_w32) (broadcast S256x128 14#32)) (A 14) (select (cmpi .eq (iota .tc S256x128 32 [1] iota_S256x128_d1_w32) (broadcast S256x128 13#32)) (A 13) (select (cmpi .eq (iota .tc S256x128 32 [1] iota_S256x128_d1_w32) (broadcast S256x128 12#32)) (A 12) (select (cmpi .eq (iota .tc S256x128 32 [1] iota_S256x128_d1_w32) (broadcast S256x128 11#32)) (A 11) (select (cmpi .eq (iota .tc S256x128 32 [1] iota_S256x128_d1_w32) (broadcast S256x128 10#32)) (A 10) (select (cmpi .eq (iota .tc S256x128 32 [1] iota_S256x128_d1_w32) (broadcast S256x128 9#32)) (A 9) (select (cmpi .eq (iota .tc S256x128 32 [1] iota_S256x128_d1_w32) (broadcast S256x128 8#32)) (A 8) (select (cmpi .eq (iota .tc S256x128 32 [1] iota_S256x128_d1_w32) (broadcast S256x128 7#32)) (A 7) (select (cmpi .eq (iota .tc S256x128 32 [1] iota_S256x128_d1_w32) (broadcast S256x128 6#32)) (A 6) (select k0_pay39 (A 5) (k0_pay38 (A 0) (A 1) (A 2) (A 3) (A 4))))))))))))))))))) (cmpi .eq (iota .tc S256x128 32 [1] iota_S256x128_d1_w32) (broadcast S256x128 22#32)) (A 22) (A 23))

/-- Lane `h` holds head `h`'s. -/
theorem gather_q_apply (A : Fin 24 → Vec Ideal S256x128 .f32) (s : Fin 256) (h : Fin 24) :
    gather_q A (ix2 s (⟨h.val, by omega⟩ : Fin 128)) = A h (ix2 s (⟨h.val, by omega⟩ : Fin 128)) := by
  unfold gather_q
  pointwise [k0_pay38, k0_pay39, k0_pay43]
  fin_cases h <;> rfl

/-- The lane-by-lane selection of the heads' scales (k). -/
def gather_k (A : Fin 8 → Vec Ideal S256x128 .f32) : FVec Ideal S256x128 .f32 :=
  (k0_pay46 (iota .tc S256x128 32 [1] iota_S256x128_d1_w32) (k0_pay44 (iota .tc S256x128 32 [1] iota_S256x128_d1_w32) (A 0) (A 1) (A 2) (A 3) (A 4) (A 5)) (k0_pay45 (iota .tc S256x128 32 [1] iota_S256x128_d1_w32)) (A 6) (A 7))

/-- Lane `h` holds head `h`'s. -/
theorem gather_k_apply (A : Fin 8 → Vec Ideal S256x128 .f32) (s : Fin 256) (h : Fin 8) :
    gather_k A (ix2 s (⟨h.val, by omega⟩ : Fin 128)) = A h (ix2 s (⟨h.val, by omega⟩ : Fin 128)) := by
  unfold gather_k
  pointwise [k0_pay44, k0_pay45, k0_pay46]
  match h with
  | 0 => rfl
  | 1 => rfl
  | 2 => rfl
  | 3 => rfl
  | 4 => rfl
  | 5 => rfl
  | 6 => rfl
  | 7 => rfl

/-- The lane-by-lane selection of the heads' scales (v). -/
def gather_v (A : Fin 8 → Vec Ideal S256x128 .f32) : FVec Ideal S256x128 .f32 :=
  (select (cmpi .eq (iota .tc S256x128 32 [1] iota_S256x128_d1_w32) (broadcast S256x128 7#32)) (A 7) (k0_pay47 (iota .tc S256x128 32 [1] iota_S256x128_d1_w32) (A 0) (A 1) (A 2) (A 3) (A 4) (A 5) (A 6)))

/-- Lane `h` holds head `h`'s. -/
theorem gather_v_apply (A : Fin 8 → Vec Ideal S256x128 .f32) (s : Fin 256) (h : Fin 8) :
    gather_v A (ix2 s (⟨h.val, by omega⟩ : Fin 128)) = A h (ix2 s (⟨h.val, by omega⟩ : Fin 128)) := by
  unfold gather_v
  pointwise [k0_pay47]
  match h with
  | 0 => rfl
  | 1 => rfl
  | 2 => rfl
  | 3 => rfl
  | 4 => rfl
  | 5 => rfl
  | 6 => rfl
  | 7 => rfl

end Cert.KernelIdeal.Row
-- ==== Proof.Blocks.lean ====
module

public import proofs.«01_k».proof.Proof.Reads
public import proofs.«01_k».proof.Proof.Heads
public import proofs.«01_k».proof.Proof.Gen.KernelIdeal.Frame

@[expose] public section

set_option maxRecDepth 16384

noncomputable section
namespace Cert.KernelIdeal.Row
open Cert.KernelIdeal Cert.KernelIdeal.Gen Idealize.ShloMosaic Cert.Quant Idealize.ShloMosaic.TcCoe Idealize.SL.Sem Idealize.ShloMosaic.Tactic

/-- The same load with its trip count and box written out. -/
theorem ld_cq_lit (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x24x128 .bf16) (h : ℕ) (hh : h < 24) (inb) :
    arg15.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) (Scf.trips (0#32) (Scalar.addi 0#32 32#32) 1#32)).2.1 ⟨![h, 0], ![256, 128], ![24, 1], inb⟩ = CQ x ⟨h, hh⟩ :=
  ld_cq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x h hh inb

/-- The same load with its trip count and box written out. -/
theorem ld_sq_lit (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x24x128 .bf16) (h : ℕ) (hh : h < 24) (inb) :
    arg16.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x) (Scf.trips (0#32) (Scalar.addi 0#32 32#32) 1#32)).2.2 ⟨![h, 0], ![256, 128], ![24, 1], inb⟩ = SQ x ⟨h, hh⟩ :=
  ld_sq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x h hh inb

/-- The same load with its trip count and box written out. -/
theorem ld_ck_lit (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg17.view.readCov (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) (Scf.trips (0#32) (Scalar.addi 0#32 32#32) 1#32)).2.1 ⟨![h, 0], ![256, 128], ![8, 1], inb⟩ = CK x ⟨h, hh⟩ :=
  ld_ck 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x h hh inb

/-- The same load with its trip count and box written out. -/
theorem ld_sk_lit (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg18.view.readCov (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x) (Scf.trips (0#32) (Scalar.addi 0#32 32#32) 1#32)).2.2 ⟨![h, 0], ![256, 128], ![8, 1], inb⟩ = SK x ⟨h, hh⟩ :=
  ld_sk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x h hh inb

/-- The same load with its trip count and box written out. -/
theorem ld_cv_lit (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg19.view.readCov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) (Scf.trips (0#32) (Scalar.addi 0#32 32#32) 1#32)).2.1 ⟨![h, 0], ![256, 128], ![8, 1], inb⟩ = CK x ⟨h, hh⟩ :=
  ld_cv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x h hh inb

/-- The same load with its trip count and box written out. -/
theorem ld_sv_lit (𝒱 : Variants) (c : Dev nD) (bd : Option 𝒱.V) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x : Vec Ideal S1x256x8x128 .bf16) (h : ℕ) (hh : h < 8) (inb) :
    arg20.view.readCov (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg3.unread x) (Scf.trips (0#32) (Scalar.addi 0#32 32#32) 1#32)).2.2 ⟨![h, 0], ![256, 128], ![8, 1], inb⟩ = SK x ⟨h, hh⟩ :=
  ld_sv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x h hh inb

/-- The scales of a token's heads. -/
def GSC (x0 : Vec Ideal S1x256x24x128 .bf16) : S1x256x24.Idx → EReal := fun j => kscale (yq (qrow x0 (j 1) (j 2)))

/-- The scales of a token's key or value heads. -/
def KSC (x1 : Vec Ideal S1x256x8x128 .bf16) : S1x256x8.Idx → EReal := fun j => kscale (yq (krow x1 (j 1) (j 2)))

/-- The key or value head of a query head. -/
def kvOf (h : Fin 24) : Fin 8 := ⟨h.val / 3, by omega⟩

/-- One head's attention of the block. -/
def headAttn (x0 : Vec Ideal S1x256x24x128 .bf16) (x1 x2 : Vec Ideal S1x256x8x128 .bf16) (h : Fin 24) (kv : Fin 8) (s : Fin 256) (d : Fin 128) : EReal :=
  attn (fun s => kcode (qrow x0 s h)) (fun t => kcode (krow x1 t kv)) (fun t => kcode (krow x2 t kv))
    (fun s => kscale (yq (qrow x0 s h))) (fun t => kscale (yq (krow x1 t kv))) (fun t => kscale (yq (krow x2 t kv))) s d

/-- The attention output of the block. -/
def LOC (x0 : Vec Ideal S1x256x24x128 .bf16) (x1 x2 : Vec Ideal S1x256x8x128 .bf16) : S1x24x256x128.Idx → EReal := fun j =>
  headAttn x0 x1 x2 (j 1) (kvOf (j 1)) (j 2) (j 3)

/-- The block of scales the gathered lanes give (q). -/
theorem scale_out_q (x : Vec Ideal S1x256x24x128 .bf16) (z : S1x256x24.Idx) :
    shapeCast S1x256x24 (extractStridedSlice S256x24 ![0, 0] (gather_q (SQ x)) slices_S256x128_o0_0_S256x24) shapeCasts_S256x24_S1x256x24 z
      = kscale (yq (qrow x (z 1) (z 2))) := by
  idx_vars z
  pointwise
  refine (gather_q_apply _ _ _).trans rfl

/-- The block of scales the gathered lanes give (k). -/
theorem scale_out_k (x : Vec Ideal S1x256x8x128 .bf16) (z : S1x256x8.Idx) :
    shapeCast S1x256x8 (extractStridedSlice S256x8 ![0, 0] (gather_k (SK x)) slices_S256x128_o0_0_S256x8) shapeCasts_S256x8_S1x256x8 z
      = kscale (yq (krow x (z 1) (z 2))) := by
  idx_vars z
  pointwise
  refine (gather_k_apply _ _ _).trans rfl

/-- The block of scales the gathered lanes give (v). -/
theorem scale_out_v (x : Vec Ideal S1x256x8x128 .bf16) (z : S1x256x8.Idx) :
    shapeCast S1x256x8 (extractStridedSlice S256x8 ![0, 0] (gather_v (SK x)) slices_S256x128_o0_0_S256x8) shapeCasts_S256x8_S1x256x8 z
      = kscale (yq (krow x (z 1) (z 2))) := by
  idx_vars z
  pointwise
  refine (gather_v_apply _ _ _).trans rfl

/-- A row of the transposed gathered scales (k). -/
theorem scale_row_k (x : Vec Ideal S1x256x8x128 .bf16) (kv : ℕ) (hkv : kv < 8) (hs : S128x256.Slices ![kv, 0] S1x256) (t : Fin 256) :
    extractStridedSlice S1x256 ![kv, 0] (transpose S128x256 [1, 0] (gather_k (SK x)) transposes_S256x128_p1_0_S128x256) hs (ix2 0 t)
      = kscale (yq (krow x t ⟨kv, hkv⟩)) := by
  pointwise
  refine (gather_k_apply (SK x) t ⟨kv, hkv⟩).trans rfl

/-- A row of the transposed gathered scales (v). -/
theorem scale_row_v (x : Vec Ideal S1x256x8x128 .bf16) (kv : ℕ) (hkv : kv < 8) (hs : S128x256.Slices ![kv, 0] S1x256) (t : Fin 256) :
    extractStridedSlice S1x256 ![kv, 0] (transpose S128x256 [1, 0] (gather_v (SK x)) transposes_S256x128_p1_0_S128x256) hs (ix2 0 t)
      = kscale (yq (krow x t ⟨kv, hkv⟩)) := by
  pointwise
  refine (gather_v_apply (SK x) t ⟨kv, hkv⟩).trans rfl

/-- A head's tower over the loaded vectors is its attention. -/
theorem tower_head (x0 : Vec Ideal S1x256x24x128 .bf16) (x1 x2 : Vec Ideal S1x256x8x128 .bf16) (h : ℕ) (hh : h < 24) (kv : ℕ) (hkv : kv < 8) (hs : S128x256.Slices ![kv, 0] S1x256)
    (e : h / 3 = kv) (inb : ∀ a, (![0, h, 0, 0] : Fin 4 → ℕ) a + (![1, 1, 256, 128] : Fin 4 → ℕ) a ≤ S1x24x256x128.size a)
    (z : (Rect.unit (s := S1x24x256x128) ![0, h, 0, 0] ![1, 1, 256, 128] inb).shape.Idx) :
    tower future (CK x1 ⟨kv, hkv⟩) (CK x2 ⟨kv, hkv⟩)
      (extractStridedSlice S1x256 ![kv, 0] (transpose S128x256 [1, 0] (gather_k (SK x1)) transposes_S256x128_p1_0_S128x256) hs)
      (extractStridedSlice S1x256 ![kv, 0] (transpose S128x256 [1, 0] (gather_v (SK x2)) transposes_S256x128_p1_0_S128x256) hs)
      (CQ x0 ⟨h, hh⟩) (SQ x0 ⟨h, hh⟩) z
      = LOC x0 x1 x2 ((Rect.unit (s := S1x24x256x128) ![0, h, 0, 0] ![1, 1, 256, 128] inb).emb z) := by
  obtain ⟨a, b, s, d, rfl⟩ : ∃ (a : Fin 1) (b : Fin 1) (s : Fin 256) (d : Fin 128), z = ix4 a b s d :=
    ⟨z 0, z 1, z 2, z 3, by funext a; match a with | 0 => rfl | 1 => rfl | 2 => rfl | 3 => rfl⟩
  refine (tower_apply _ _ _ _ _ _ a b s d).trans ?_
  simp only [scale_row_k x1 kv hkv hs, scale_row_v x2 kv hkv hs]
  unfold LOC
  have e1 : ((Rect.unit (s := S1x24x256x128) ![0, h, 0, 0] ![1, 1, 256, 128] inb).emb (ix4 a b s d)) 1 = (⟨h, hh⟩ : Fin 24) :=
    Fin.ext ((congrArg (h + ·) (Nat.one_mul _)).trans (by have := b.isLt; show h + b.val = h; omega))
  have e2 : ((Rect.unit (s := S1x24x256x128) ![0, h, 0, 0] ![1, 1, 256, 128] inb).emb (ix4 a b s d)) 2 = s := Fin.ext ((Nat.zero_add _).trans (Nat.one_mul _))
  have e3 : ((Rect.unit (s := S1x24x256x128) ![0, h, 0, 0] ![1, 1, 256, 128] inb).emb (ix4 a b s d)) 3 = d := Fin.ext ((Nat.zero_add _).trans (Nat.one_mul _))
  rw [e1, e2, e3]
  have ek : kvOf ⟨h, hh⟩ = ⟨kv, hkv⟩ := Fin.ext e
  rw [ek]
  rfl

/-- The block of codes the body leaves in output 4. -/
theorem out4_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = GC x0 := by
  funext y
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  exact View.canon_apply_of_pieces _ _ (pb1_good Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 _ (le_refl _)).1 y (cover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)

/-- The block of codes the body leaves in output 6. -/
theorem out6_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = KC x1 := by
  funext y
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  exact View.canon_apply_of_pieces _ _ (pb2_good Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 _ (le_refl _)).1 y (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)

/-- The block of codes the body leaves in output 8. -/
theorem out8_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = KC x2 := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  exact View.canon_apply_of_pieces _ _ (pb3_good Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 _ (le_refl _)).1 y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)

/-- The block of scales the body leaves in output 5. -/
theorem out5_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = GSC x0 := by
  funext y
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  refine View.canon_apply_of_pieces _ _ ?_ y (cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)
  unfold kernelRun0_A
  dsimp only
  sl_unfold_words
  simp (discharger := decide) only [↓ld_cq, ↓ld_sq, ↓ld_ck, ↓ld_sk, ↓ld_cv, ↓ld_sv, ld_cq_lit, ld_sq_lit, ld_ck_lit, ld_sk_lit, ld_cv_lit, ld_sv_lit]
  intro p hp z
  rw [List.mem_singleton] at hp
  subst hp
  refine (scale_out_q x0 z).trans ?_
  unfold GSC
  have e1 : ((Rect.unit (s := S1x256x24) ![0, 0, 0] ![1, 256, 24] inb_S1x256x24_S1x256x24_0_0_0).emb z) 1 = z 1 := Fin.ext ((Nat.zero_add _).trans (Nat.one_mul _))
  have e2 : ((Rect.unit (s := S1x256x24) ![0, 0, 0] ![1, 256, 24] inb_S1x256x24_S1x256x24_0_0_0).emb z) 2 = z 2 := Fin.ext ((Nat.zero_add _).trans (Nat.one_mul _))
  exact congrArg₂ (fun a b => kscale (yq (qrow x0 a b))) e1.symm e2.symm

/-- The block of scales the body leaves in output 7. -/
theorem out7_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = KSC x1 := by
  funext y
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  refine View.canon_apply_of_pieces _ _ ?_ y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)
  unfold kernelRun0_A
  dsimp only
  sl_unfold_words
  simp (discharger := decide) only [↓ld_cq, ↓ld_sq, ↓ld_ck, ↓ld_sk, ↓ld_cv, ↓ld_sv, ld_cq_lit, ld_sq_lit, ld_ck_lit, ld_sk_lit, ld_cv_lit, ld_sv_lit]
  intro p hp z
  rw [List.mem_singleton] at hp
  subst hp
  refine (scale_out_k x1 z).trans ?_
  unfold KSC
  have e1 : ((Rect.unit (s := S1x256x8) ![0, 0, 0] ![1, 256, 8] inb_S1x256x8_S1x256x8_0_0_0).emb z) 1 = z 1 := Fin.ext ((Nat.zero_add _).trans (Nat.one_mul _))
  have e2 : ((Rect.unit (s := S1x256x8) ![0, 0, 0] ![1, 256, 8] inb_S1x256x8_S1x256x8_0_0_0).emb z) 2 = z 2 := Fin.ext ((Nat.zero_add _).trans (Nat.one_mul _))
  exact congrArg₂ (fun a b => kscale (yq (krow x1 a b))) e1.symm e2.symm

/-- The block of scales the body leaves in output 9. -/
theorem out9_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = KSC x2 := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  refine View.canon_apply_of_pieces _ _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)
  unfold kernelRun0_A
  dsimp only
  sl_unfold_words
  simp (discharger := decide) only [↓ld_cq, ↓ld_sq, ↓ld_ck, ↓ld_sk, ↓ld_cv, ↓ld_sv, ld_cq_lit, ld_sq_lit, ld_ck_lit, ld_sk_lit, ld_cv_lit, ld_sv_lit]
  intro p hp z
  rw [List.mem_singleton] at hp
  subst hp
  refine (scale_out_v x2 z).trans ?_
  unfold KSC
  have e1 : ((Rect.unit (s := S1x256x8) ![0, 0, 0] ![1, 256, 8] inb_S1x256x8_S1x256x8_0_0_0).emb z) 1 = z 1 := Fin.ext ((Nat.zero_add _).trans (Nat.one_mul _))
  have e2 : ((Rect.unit (s := S1x256x8) ![0, 0, 0] ![1, 256, 8] inb_S1x256x8_S1x256x8_0_0_0).emb z) 2 = z 2 := Fin.ext ((Nat.zero_add _).trans (Nat.one_mul _))
  exact congrArg₂ (fun a b => kscale (yq (krow x2 a b))) e1.symm e2.symm

/-- The attention block the body leaves in output 10. -/
theorem out10_eq (c : Dev nD) (i : grid0.Coords) (arg1 : Memref sig .tc .vmem S1x256x24x128 .bf16) (harg1 : arg1.IsWhole) (arg2 : Memref sig .tc .vmem S1x256x8x128 .bf16) (harg2 : arg2.IsWhole) (arg3 : Memref sig .tc .vmem S1x256x8x128 .bf16) (harg3 : arg3.IsWhole) (arg4 : Memref sig .tc .vmem S1x24x32x256 .i32) (harg4 : arg4.IsWhole) (arg5 : Memref sig .tc .vmem S1x256x24x128 .fp8e4m3) (harg5 : arg5.IsWhole) (arg6 : Memref sig .tc .vmem S1x256x24 .f32) (harg6 : arg6.IsWhole) (arg7 : Memref sig .tc .vmem S1x256x8x128 .fp8e4m3) (harg7 : arg7.IsWhole) (arg8 : Memref sig .tc .vmem S1x256x8 .f32) (harg8 : arg8.IsWhole) (arg9 : Memref sig .tc .vmem S1x256x8x128 .fp8e4m3) (harg9 : arg9.IsWhole) (arg10 : Memref sig .tc .vmem S1x256x8 .f32) (harg10 : arg10.IsWhole) (arg11 : Memref sig .tc .vmem S1x24x256x128 .f32) (harg11 : arg11.IsWhole) (arg12 : Memref sig .tc .vmem S1x24x256x128 .f32) (harg12 : arg12.IsWhole) (arg13 : Memref sig .tc .vmem S1x48x128 .f32) (harg13 : arg13.IsWhole) (arg14 : Memref sig .tc .vmem S1x24x2x32x128 .i32) (harg14 : arg14.IsWhole) (arg15 : Memref sig .tc .vmem S6144x128 .f32) (harg15 : arg15.IsWhole) (arg16 : Memref sig .tc .vmem S6144x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (x0 : Vec Ideal S1x256x24x128 .bf16) (x1 : Vec Ideal S1x256x8x128 .bf16) (x2 : Vec Ideal S1x256x8x128 .bf16) (x3 : Vec Ideal S1x24x32x256 .i32) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 = LOC x0 x1 x2 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3)]
  refine View.canon_apply_of_pieces _ _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 y)
  unfold kernelRun0_A
  dsimp only
  sl_unfold_words
  simp (discharger := decide) only [↓ld_cq, ↓ld_sq, ↓ld_ck, ↓ld_sk, ↓ld_cv, ↓ld_sv, ld_cq_lit, ld_sq_lit, ld_ck_lit, ld_sk_lit, ld_cv_lit, ld_sv_lit]
  intro p hp z
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact (congrFun (head23 future _ _ _ _ _ _) z).trans (tower_head x0 x1 x2 23 (by decide) 7 (by decide) slices_S128x256_o7_0_S1x256 rfl inb_S1x24x256x128_S1x1x256x128_0_23_0_0 z)
  · exact (congrFun (head22 future _ _ _ _ _ _) z).trans (tower_head x0 x1 x2 22 (by decide) 7 (by decide) slices_S128x256_o7_0_S1x256 rfl inb_S1x24x256x128_S1x1x256x128_0_22_0_0 z)
  · exact (congrFun (head21 future _ _ _ _ _ _) z).trans (tower_head x0 x1 x2 21 (by decide) 7 (by decide) slices_S128x256_o7_0_S1x256 rfl inb_S1x24x256x128_S1x1x256x128_0_21_0_0 z)
  · exact (congrFun (head20 future _ _ _ _ _ _) z).trans (tower_head x0 x1 x2 20 (by decide) 6 (by decide) slices_S128x256_o6_0_S1x256 rfl inb_S1x24x256x128_S1x1x256x128_0_20_0_0 z)
  · exact (congrFun (head19 future _ _ _ _ _ _) z).trans (tower_head x0 x1 x2 19 (by decide) 6 (by decide) slices_S128x256_o6_0_S1x256 rfl inb_S1x24x256x128_S1x1x256x128_0_19_0_0 z)
  · exact (congrFun (head18 future _ _ _ _ _ _) z).trans (tower_head x0 x1 x2 18 (by decide) 6 (by decide) slices_S128x256_o6_0_S1x256 rfl inb_S1x24x256x128_S1x1x256x128_0_18_0_0 z)
  · exact (congrFun (head17 future _ _ _ _ _ _) z).trans (tower_head x0 x1 x2 17 (by decide) 5 (by decide) slices_S128x256_o5_0_S1x256 rfl inb_S1x24x256x128_S1x1x256x128_0_17_0_0 z)
  · exact (congrFun (head16 future _ _ _ _ _ _) z).trans (tower_head x0 x1 x2 16 (by decide) 5 (by decide) slices_S128x256_o5_0_S1x256 rfl inb_S1x24x256x128_S1x1x256x128_0_16_0_0 z)
  · exact (congrFun (head15 future _ _ _ _ _ _) z).trans (tower_head x0 x1 x2 15 (by decide) 5 (by decide) slices_S128x256_o5_0_S1x256 rfl inb_S1x24x256x128_S1x1x256x128_0_15_0_0 z)
  · exact (congrFun (head14 future _ _ _ _ _ _) z).trans (tower_head x0 x1 x2 14 (by decide) 4 (by decide) slices_S128x256_o4_0_S1x256 rfl inb_S1x24x256x128_S1x1x256x128_0_14_0_0 z)
  · exact (congrFun (head13 future _ _ _ _ _ _) z).trans (tower_head x0 x1 x2 13 (by decide) 4 (by decide) slices_S128x256_o4_0_S1x256 rfl inb_S1x24x256x128_S1x1x256x128_0_13_0_0 z)
  · exact (congrFun (head12 future _ _ _ _ _ _) z).trans (tower_head x0 x1 x2 12 (by decide) 4 (by decide) slices_S128x256_o4_0_S1x256 rfl inb_S1x24x256x128_S1x1x256x128_0_12_0_0 z)
  · exact (congrFun (head11 future _ _ _ _ _ _) z).trans (tower_head x0 x1 x2 11 (by decide) 3 (by decide) slices_S128x256_o3_0_S1x256 rfl inb_S1x24x256x128_S1x1x256x128_0_11_0_0 z)
  · exact (congrFun (head10 future _ _ _ _ _ _) z).trans (tower_head x0 x1 x2 10 (by decide) 3 (by decide) slices_S128x256_o3_0_S1x256 rfl inb_S1x24x256x128_S1x1x256x128_0_10_0_0 z)
  · exact (congrFun (head9 future _ _ _ _ _ _) z).trans (tower_head x0 x1 x2 9 (by decide) 3 (by decide) slices_S128x256_o3_0_S1x256 rfl inb_S1x24x256x128_S1x1x256x128_0_9_0_0 z)
  · exact (congrFun (head8 future _ _ _ _ _ _) z).trans (tower_head x0 x1 x2 8 (by decide) 2 (by decide) slices_S128x256_o2_0_S1x256 rfl inb_S1x24x256x128_S1x1x256x128_0_8_0_0 z)
  · exact (congrFun (head7 future _ _ _ _ _ _) z).trans (tower_head x0 x1 x2 7 (by decide) 2 (by decide) slices_S128x256_o2_0_S1x256 rfl inb_S1x24x256x128_S1x1x256x128_0_7_0_0 z)
  · exact (congrFun (head6 future _ _ _ _ _ _) z).trans (tower_head x0 x1 x2 6 (by decide) 2 (by decide) slices_S128x256_o2_0_S1x256 rfl inb_S1x24x256x128_S1x1x256x128_0_6_0_0 z)
  · exact (congrFun (head5 future _ _ _ _ _ _) z).trans (tower_head x0 x1 x2 5 (by decide) 1 (by decide) slices_S128x256_o1_0_S1x256 rfl inb_S1x24x256x128_S1x1x256x128_0_5_0_0 z)
  · exact (congrFun (head4 future _ _ _ _ _ _) z).trans (tower_head x0 x1 x2 4 (by decide) 1 (by decide) slices_S128x256_o1_0_S1x256 rfl inb_S1x24x256x128_S1x1x256x128_0_4_0_0 z)
  · exact (congrFun (head3 future _ _ _ _ _ _) z).trans (tower_head x0 x1 x2 3 (by decide) 1 (by decide) slices_S128x256_o1_0_S1x256 rfl inb_S1x24x256x128_S1x1x256x128_0_3_0_0 z)
  · exact (congrFun (head2 future _ _ _ _ _ _) z).trans (tower_head x0 x1 x2 2 (by decide) 0 (by decide) slices_S128x256_o0_0_S1x256 rfl inb_S1x24x256x128_S1x1x256x128_0_2_0_0 z)
  · exact (congrFun (head1 future _ _ _ _ _ _) z).trans (tower_head x0 x1 x2 1 (by decide) 0 (by decide) slices_S128x256_o0_0_S1x256 rfl inb_S1x24x256x128_S1x1x256x128_0_1_0_0 z)
  · exact (congrFun (head0 future _ _ _ _ _ _) z).trans (tower_head x0 x1 x2 0 (by decide) 0 (by decide) slices_S128x256_o0_0_S1x256 rfl inb_S1x24x256x128_S1x1x256x128_0_0_0_0 z)

end Cert.KernelIdeal.Row
-- ==== Proof.Spec.lean ====
/- The seven result arrays as functions of the argument arrays, the quantiser a parameter: `f` gives a row's codes, `g` its
   scale. The kernel's arrays are these at the kernel's own quantiser, the reference's at the quantiser it states. -/
module

public import proofs.«01_k».proof.Proof.Heads
public import proofs.«01_k».proof.Proof.QuantMath

@[expose] public section

set_option maxRecDepth 16384

noncomputable section
namespace Cert.Spec
open Idealize.ShloMosaic Cert.Quant Cert.KernelIdeal.Row

/-- The query array: batch, token, head, feature. -/
abbrev TQ : Shape := ⟨4, ![6, 256, 24, 128]⟩
/-- The key and value arrays: batch, token, key head, feature. -/
abbrev TK : Shape := ⟨4, ![6, 256, 8, 128]⟩
/-- The query scales: batch, token, head. -/
abbrev TQS : Shape := ⟨3, ![6, 256, 24]⟩
/-- The key and value scales: batch, token, key head. -/
abbrev TKS : Shape := ⟨3, ![6, 256, 8]⟩
/-- The attention output: batch, head, token, feature. -/
abbrev TL : Shape := ⟨4, ![6, 24, 256, 128]⟩

/-- One token's row of one query head. -/
def rowQ (q : TQ.Idx → EReal) (b : Fin 6) (s : Fin 256) (h : Fin 24) : Fin 128 → EReal := fun d => q (ix4 b s h d)
/-- One token's row of one key (or value) head. -/
def rowK (k : TK.Idx → EReal) (b : Fin 6) (s : Fin 256) (h : Fin 8) : Fin 128 → EReal := fun d => k (ix4 b s h d)

/-- The codes of the queries. -/
def codesQ (f : (Fin 128 → EReal) → Fin 128 → EReal) (q : TQ.Idx → EReal) : TQ.Idx → EReal :=
  fun j => f (rowQ q (j 0) (j 1) (j 2)) (j 3)
/-- The codes of the keys (or values). -/
def codesK (f : (Fin 128 → EReal) → Fin 128 → EReal) (k : TK.Idx → EReal) : TK.Idx → EReal :=
  fun j => f (rowK k (j 0) (j 1) (j 2)) (j 3)
/-- The scales of the queries. -/
def scalesQ (g : (Fin 128 → EReal) → EReal) (q : TQ.Idx → EReal) : TQS.Idx → EReal :=
  fun j => g (rowQ q (j 0) (j 1) (j 2))
/-- The scales of the keys (or values). -/
def scalesK (g : (Fin 128 → EReal) → EReal) (k : TK.Idx → EReal) : TKS.Idx → EReal :=
  fun j => g (rowK k (j 0) (j 1) (j 2))

/-- The key head that serves a query head: three query heads share one. -/
def kvHead (h : Fin 24) : Fin 8 := ⟨h.val / 3, by omega⟩

/-- The attention output: at each batch and head, causal softmax attention over the codes, each code carrying its scale. -/
def localAttn (f : (Fin 128 → EReal) → Fin 128 → EReal) (g : (Fin 128 → EReal) → EReal)
    (q : TQ.Idx → EReal) (k v : TK.Idx → EReal) : TL.Idx → EReal := fun j =>
  attn (fun s => f (rowQ q (j 0) s (j 1))) (fun t => f (rowK k (j 0) t (kvHead (j 1)))) (fun t => f (rowK v (j 0) t (kvHead (j 1))))
    (fun s => g (rowQ q (j 0) s (j 1))) (fun t => g (rowK k (j 0) t (kvHead (j 1)))) (fun t => g (rowK v (j 0) t (kvHead (j 1))))
    (j 2) (j 3)

/-- Every row of the query array is small enough for the kernel's scale words. -/
def TameQ (q : TQ.Idx → EReal) : Prop := ∀ j, max (q j) (-(q j)) ≤ Ideal.ofBits .f32 0x7F7F0000#32
/-- Every row of the key (or value) array is small enough for the kernel's scale words. -/
def TameK (k : TK.Idx → EReal) : Prop := ∀ j, max (k j) (-(k j)) ≤ Ideal.ofBits .f32 0x7F7F0000#32

/-- The kernel's scale of a row. -/
def kscl (x : Fin 128 → EReal) : EReal := kscale (yq x)

/-- On such an array the kernel's query codes are the reference's. -/
theorem codesQ_eq {q : TQ.Idx → EReal} (h : TameQ q) : codesQ kcode q = codesQ code q :=
  funext fun j => by exact congrFun (kcode_row _ fun d => h _) _
/-- On such an array the kernel's key (or value) codes are the reference's. -/
theorem codesK_eq {k : TK.Idx → EReal} (h : TameK k) : codesK kcode k = codesK code k :=
  funext fun j => by exact congrFun (kcode_row _ fun d => h _) _
/-- On such an array the kernel's query scales are the reference's. -/
theorem scalesQ_eq {q : TQ.Idx → EReal} (h : TameQ q) : scalesQ kscl q = scalesQ scl q :=
  funext fun j => kscale_row _ fun d => h _
/-- On such an array the kernel's key (or value) scales are the reference's. -/
theorem scalesK_eq {k : TK.Idx → EReal} (h : TameK k) : scalesK kscl k = scalesK scl k :=
  funext fun j => kscale_row _ fun d => h _

/-- Attention of equal codes and scales is equal. -/
theorem attn_congr {q q' k k' v v' : Fin 256 → Fin 128 → EReal} {qs qs' ks ks' vs vs' : Fin 256 → EReal}
    (hq : q = q') (hk : k = k') (hv : v = v') (hqs : qs = qs') (hks : ks = ks') (hvs : vs = vs') (s : Fin 256) (d : Fin 128) :
    attn q k v qs ks vs s d = attn q' k' v' qs' ks' vs' s d := by
  subst hq hk hv hqs hks hvs; rfl

/-- On arrays that are small enough, the kernel's attention is the reference's. -/
theorem localAttn_eq {q : TQ.Idx → EReal} {k v : TK.Idx → EReal} (hq : TameQ q) (hk : TameK k) (hv : TameK v) :
    localAttn kcode kscl q k v = localAttn code scl q k v := by
  have cq : ∀ b s h, kcode (rowQ q b s h) = code (rowQ q b s h) := fun b s h => kcode_row _ fun d => hq _
  have ck : ∀ b s h, kcode (rowK k b s h) = code (rowK k b s h) := fun b s h => kcode_row _ fun d => hk _
  have cv : ∀ b s h, kcode (rowK v b s h) = code (rowK v b s h) := fun b s h => kcode_row _ fun d => hv _
  have sq : ∀ b s h, kscl (rowQ q b s h) = scl (rowQ q b s h) := fun b s h => kscale_row _ fun d => hq _
  have sk : ∀ b s h, kscl (rowK k b s h) = scl (rowK k b s h) := fun b s h => kscale_row _ fun d => hk _
  have sv : ∀ b s h, kscl (rowK v b s h) = scl (rowK v b s h) := fun b s h => kscale_row _ fun d => hv _
  funext j
  unfold localAttn
  have e1 := funext fun s => cq (j 0) s (j 1)
  have e2 := funext fun t => ck (j 0) t (kvHead (j 1))
  have e3 := funext fun t => cv (j 0) t (kvHead (j 1))
  have e4 := funext fun s => sq (j 0) s (j 1)
  have e5 := funext fun t => sk (j 0) t (kvHead (j 1))
  have e6 := funext fun t => sv (j 0) t (kvHead (j 1))
  exact attn_congr e1 e2 e3 e4 e5 e6 _ _

end Cert.Spec
-- ==== Proof.Arrays.lean ====
/- The kernel's result arrays after the whole run, as functions of the argument arrays: each grid point writes its batch's
   block (Blocks.lean), and the six blocks are the whole array. -/
module

public import proofs.«01_k».proof.Proof.Blocks
public import proofs.«01_k».proof.Proof.Spec
public import proofs.«01_k».proof.Proof.Gen.KernelIdeal.Value
public import Idealize.ShloMosaic.Lib.Pipeline.ValueKit.Geometry

@[expose] public section

set_option maxRecDepth 16384

noncomputable section
namespace Cert.KernelIdeal.Row
open Cert.KernelIdeal Cert.KernelIdeal.Gen Cert.KernelIdeal.Value Idealize.ShloMosaic Cert.Quant Cert.Spec Idealize.ShloMosaic.TcCoe Idealize.SL.Sem

variable (m : (ℓ : Loc nD τ sig) → Buf (Elt Ideal) ℓ)

/-- The batch of a grid point. -/
def batch (t : Fin cfg0.N) : Fin 6 := t

/-- Window 0's block index at a grid point: the batch, then zeros. -/
theorem index0 : ∀ t : Fin cfg0.N, win0_0.index t = ![t.val, 0, 0, 0] := (by decide +kernel : ∀ t : Fin grid0.N, _)

/-- Window 1's block index at a grid point: the batch, then zeros. -/
theorem index1 : ∀ t : Fin cfg0.N, win0_1.index t = ![t.val, 0, 0, 0] := (by decide +kernel : ∀ t : Fin grid0.N, _)

/-- Window 2's block index at a grid point: the batch, then zeros. -/
theorem index2 : ∀ t : Fin cfg0.N, win0_2.index t = ![t.val, 0, 0, 0] := (by decide +kernel : ∀ t : Fin grid0.N, _)

/-- Window 4's block index at a grid point: the batch, then zeros. -/
theorem index4 : ∀ t : Fin cfg0.N, win0_4.index t = ![t.val, 0, 0, 0] := (by decide +kernel : ∀ t : Fin grid0.N, _)

/-- Window 5's block index at a grid point: the batch, then zeros. -/
theorem index5 : ∀ t : Fin cfg0.N, win0_5.index t = ![t.val, 0, 0] := (by decide +kernel : ∀ t : Fin grid0.N, _)

/-- Window 6's block index at a grid point: the batch, then zeros. -/
theorem index6 : ∀ t : Fin cfg0.N, win0_6.index t = ![t.val, 0, 0, 0] := (by decide +kernel : ∀ t : Fin grid0.N, _)

/-- Window 7's block index at a grid point: the batch, then zeros. -/
theorem index7 : ∀ t : Fin cfg0.N, win0_7.index t = ![t.val, 0, 0] := (by decide +kernel : ∀ t : Fin grid0.N, _)

/-- Window 8's block index at a grid point: the batch, then zeros. -/
theorem index8 : ∀ t : Fin cfg0.N, win0_8.index t = ![t.val, 0, 0, 0] := (by decide +kernel : ∀ t : Fin grid0.N, _)

/-- Window 9's block index at a grid point: the batch, then zeros. -/
theorem index9 : ∀ t : Fin cfg0.N, win0_9.index t = ![t.val, 0, 0] := (by decide +kernel : ∀ t : Fin grid0.N, _)

/-- Window 10's block index at a grid point: the batch, then zeros. -/
theorem index10 : ∀ t : Fin cfg0.N, win0_10.index t = ![t.val, 0, 0, 0] := (by decide +kernel : ∀ t : Fin grid0.N, _)

/-- A row of input 0's block at a grid point is the row of the argument at its batch. -/
theorem block_row0 (c : Dev nD) (t : Fin cfg0.N) (s : Fin 256) (h : Fin 24) :
    qrow (iblk m c 0 t) s h = rowQ (m ((c : Thread nD τ).loc main_arg0)) (batch t) s h := by
  funext d
  show V m c main_arg0 (((cfg0.win 0).blk t).view.emb (ix4 0 s h d)) = _
  rw [V_main_arg0]
  refine congrArg (m ((c : Thread nD τ).loc main_arg0)) ?_
  have e := index0 t
  funext a; apply Fin.ext
  match a with
  | ⟨0, _⟩ => show win0_0.index t (0 : Fin 4) * 1 + 1 * 0 = t.val; rw [e]; show t.val * 1 + 1 * 0 = t.val; omega
  | ⟨1, _⟩ => show win0_0.index t (1 : Fin 4) * 256 + 1 * s.val = s.val; rw [e]; show 0 * 256 + 1 * s.val = s.val; omega
  | ⟨2, _⟩ => show win0_0.index t (2 : Fin 4) * 24 + 1 * h.val = h.val; rw [e]; show 0 * 24 + 1 * h.val = h.val; omega
  | ⟨3, _⟩ => show win0_0.index t (3 : Fin 4) * 128 + 1 * d.val = d.val; rw [e]; show 0 * 128 + 1 * d.val = d.val; omega

/-- A row of input 1's block at a grid point is the row of the argument at its batch. -/
theorem block_row1 (c : Dev nD) (t : Fin cfg0.N) (s : Fin 256) (h : Fin 8) :
    krow (iblk m c 1 t) s h = rowK (m ((c : Thread nD τ).loc main_arg1)) (batch t) s h := by
  funext d
  show V m c main_arg1 (((cfg0.win 1).blk t).view.emb (ix4 0 s h d)) = _
  rw [V_main_arg1]
  refine congrArg (m ((c : Thread nD τ).loc main_arg1)) ?_
  have e := index1 t
  funext a; apply Fin.ext
  match a with
  | ⟨0, _⟩ => show win0_1.index t (0 : Fin 4) * 1 + 1 * 0 = t.val; rw [e]; show t.val * 1 + 1 * 0 = t.val; omega
  | ⟨1, _⟩ => show win0_1.index t (1 : Fin 4) * 256 + 1 * s.val = s.val; rw [e]; show 0 * 256 + 1 * s.val = s.val; omega
  | ⟨2, _⟩ => show win0_1.index t (2 : Fin 4) * 8 + 1 * h.val = h.val; rw [e]; show 0 * 8 + 1 * h.val = h.val; omega
  | ⟨3, _⟩ => show win0_1.index t (3 : Fin 4) * 128 + 1 * d.val = d.val; rw [e]; show 0 * 128 + 1 * d.val = d.val; omega

/-- A row of input 2's block at a grid point is the row of the argument at its batch. -/
theorem block_row2 (c : Dev nD) (t : Fin cfg0.N) (s : Fin 256) (h : Fin 8) :
    krow (iblk m c 2 t) s h = rowK (m ((c : Thread nD τ).loc main_arg2)) (batch t) s h := by
  funext d
  show V m c main_arg2 (((cfg0.win 2).blk t).view.emb (ix4 0 s h d)) = _
  rw [V_main_arg2]
  refine congrArg (m ((c : Thread nD τ).loc main_arg2)) ?_
  have e := index2 t
  funext a; apply Fin.ext
  match a with
  | ⟨0, _⟩ => show win0_2.index t (0 : Fin 4) * 1 + 1 * 0 = t.val; rw [e]; show t.val * 1 + 1 * 0 = t.val; omega
  | ⟨1, _⟩ => show win0_2.index t (1 : Fin 4) * 256 + 1 * s.val = s.val; rw [e]; show 0 * 256 + 1 * s.val = s.val; omega
  | ⟨2, _⟩ => show win0_2.index t (2 : Fin 4) * 8 + 1 * h.val = h.val; rw [e]; show 0 * 8 + 1 * h.val = h.val; omega
  | ⟨3, _⟩ => show win0_2.index t (3 : Fin 4) * 128 + 1 * d.val = d.val; rw [e]; show 0 * 128 + 1 * d.val = d.val; omega

/-- What a grid point's block of output 4 holds, from the argument arrays. -/
theorem blk4 (c : Dev nD) (t : Fin cfg0.N) (y : S1x256x24x128.Idx) :
    GC (iblk m c 0 t) y = codesQ kcode (m ((c : Thread nD τ).loc main_arg0)) (ix4 (batch t) (y 1) (y 2) (y 3)) :=
  congrFun (congrArg kcode (block_row0 m c t (y 1) (y 2))) (y 3)

/-- Where a grid point's block of output 4 lies in the array. -/
theorem emb4 (t : Fin cfg0.N) (y : S1x256x24x128.Idx) : ((cfg0.win 4).blk t).view.emb y = (ix4 (batch t) (y 1) (y 2) (y 3) : S6x256x24x128.Idx) := by
  have e := index4 t
  funext a; apply Fin.ext
  match a with
  | ⟨0, _⟩ => show win0_4.index t (0 : Fin 4) * 1 + 1 * (y 0).val = t.val; rw [e]; show t.val * 1 + 1 * (y 0).val = t.val; have := (y 0).isLt; change (y 0).val < 1 at this; omega
  | ⟨1, _⟩ => show win0_4.index t (1 : Fin 4) * 256 + 1 * (y 1).val = (y 1).val; rw [e]; show 0 * 256 + 1 * (y 1).val = (y 1).val; omega
  | ⟨2, _⟩ => show win0_4.index t (2 : Fin 4) * 24 + 1 * (y 2).val = (y 2).val; rw [e]; show 0 * 24 + 1 * (y 2).val = (y 2).val; omega
  | ⟨3, _⟩ => show win0_4.index t (3 : Fin 4) * 128 + 1 * (y 3).val = (y 3).val; rw [e]; show 0 * 128 + 1 * (y 3).val = (y 3).val; omega

/-- Output 4's array after the run. -/
theorem final4 (c : Dev nD) : (dats m 0 c).arrAt 4 cfg0.N = codesQ kcode (m ((c : Thread nD τ).loc main_arg0)) :=
  (dats m 0 c).arrAt_eq_of_cover 4 (codesQ kcode (m ((c : Thread nD τ).loc main_arg0)))
    (fun t _ => by
      rw [flushed4_A, out4_eq]
      funext y
      exact (blk4 m c t y).trans (congrArg (codesQ kcode (m ((c : Thread nD τ).loc main_arg0))) (emb4 t y).symm))
    ((by decide +kernel : (cfg0.win 4).Covers).cover _ (Memref.isWhole_whole _))

/-- What a grid point's block of output 5 holds, from the argument arrays. -/
theorem blk5 (c : Dev nD) (t : Fin cfg0.N) (y : S1x256x24.Idx) :
    GSC (iblk m c 0 t) y = scalesQ kscl (m ((c : Thread nD τ).loc main_arg0)) (ix3 (batch t) (y 1) (y 2)) :=
  congrArg kscl (block_row0 m c t (y 1) (y 2))

/-- Where a grid point's block of output 5 lies in the array. -/
theorem emb5 (t : Fin cfg0.N) (y : S1x256x24.Idx) : ((cfg0.win 5).blk t).view.emb y = (ix3 (batch t) (y 1) (y 2) : S6x256x24.Idx) := by
  have e := index5 t
  funext a; apply Fin.ext
  match a with
  | ⟨0, _⟩ => show win0_5.index t (0 : Fin 3) * 1 + 1 * (y 0).val = t.val; rw [e]; show t.val * 1 + 1 * (y 0).val = t.val; have := (y 0).isLt; change (y 0).val < 1 at this; omega
  | ⟨1, _⟩ => show win0_5.index t (1 : Fin 3) * 256 + 1 * (y 1).val = (y 1).val; rw [e]; show 0 * 256 + 1 * (y 1).val = (y 1).val; omega
  | ⟨2, _⟩ => show win0_5.index t (2 : Fin 3) * 24 + 1 * (y 2).val = (y 2).val; rw [e]; show 0 * 24 + 1 * (y 2).val = (y 2).val; omega

/-- Output 5's array after the run. -/
theorem final5 (c : Dev nD) : (dats m 0 c).arrAt 5 cfg0.N = scalesQ kscl (m ((c : Thread nD τ).loc main_arg0)) :=
  (dats m 0 c).arrAt_eq_of_cover 5 (scalesQ kscl (m ((c : Thread nD τ).loc main_arg0)))
    (fun t _ => by
      rw [flushed5_A, out5_eq]
      funext y
      exact (blk5 m c t y).trans (congrArg (scalesQ kscl (m ((c : Thread nD τ).loc main_arg0))) (emb5 t y).symm))
    ((by decide +kernel : (cfg0.win 5).Covers).cover _ (Memref.isWhole_whole _))

/-- What a grid point's block of output 6 holds, from the argument arrays. -/
theorem blk6 (c : Dev nD) (t : Fin cfg0.N) (y : S1x256x8x128.Idx) :
    KC (iblk m c 1 t) y = codesK kcode (m ((c : Thread nD τ).loc main_arg1)) (ix4 (batch t) (y 1) (y 2) (y 3)) :=
  congrFun (congrArg kcode (block_row1 m c t (y 1) (y 2))) (y 3)

/-- Where a grid point's block of output 6 lies in the array. -/
theorem emb6 (t : Fin cfg0.N) (y : S1x256x8x128.Idx) : ((cfg0.win 6).blk t).view.emb y = (ix4 (batch t) (y 1) (y 2) (y 3) : S6x256x8x128.Idx) := by
  have e := index6 t
  funext a; apply Fin.ext
  match a with
  | ⟨0, _⟩ => show win0_6.index t (0 : Fin 4) * 1 + 1 * (y 0).val = t.val; rw [e]; show t.val * 1 + 1 * (y 0).val = t.val; have := (y 0).isLt; change (y 0).val < 1 at this; omega
  | ⟨1, _⟩ => show win0_6.index t (1 : Fin 4) * 256 + 1 * (y 1).val = (y 1).val; rw [e]; show 0 * 256 + 1 * (y 1).val = (y 1).val; omega
  | ⟨2, _⟩ => show win0_6.index t (2 : Fin 4) * 8 + 1 * (y 2).val = (y 2).val; rw [e]; show 0 * 8 + 1 * (y 2).val = (y 2).val; omega
  | ⟨3, _⟩ => show win0_6.index t (3 : Fin 4) * 128 + 1 * (y 3).val = (y 3).val; rw [e]; show 0 * 128 + 1 * (y 3).val = (y 3).val; omega

/-- Output 6's array after the run. -/
theorem final6 (c : Dev nD) : (dats m 0 c).arrAt 6 cfg0.N = codesK kcode (m ((c : Thread nD τ).loc main_arg1)) :=
  (dats m 0 c).arrAt_eq_of_cover 6 (codesK kcode (m ((c : Thread nD τ).loc main_arg1)))
    (fun t _ => by
      rw [flushed6_A, out6_eq]
      funext y
      exact (blk6 m c t y).trans (congrArg (codesK kcode (m ((c : Thread nD τ).loc main_arg1))) (emb6 t y).symm))
    ((by decide +kernel : (cfg0.win 6).Covers).cover _ (Memref.isWhole_whole _))

/-- What a grid point's block of output 7 holds, from the argument arrays. -/
theorem blk7 (c : Dev nD) (t : Fin cfg0.N) (y : S1x256x8.Idx) :
    KSC (iblk m c 1 t) y = scalesK kscl (m ((c : Thread nD τ).loc main_arg1)) (ix3 (batch t) (y 1) (y 2)) :=
  congrArg kscl (block_row1 m c t (y 1) (y 2))

/-- Where a grid point's block of output 7 lies in the array. -/
theorem emb7 (t : Fin cfg0.N) (y : S1x256x8.Idx) : ((cfg0.win 7).blk t).view.emb y = (ix3 (batch t) (y 1) (y 2) : S6x256x8.Idx) := by
  have e := index7 t
  funext a; apply Fin.ext
  match a with
  | ⟨0, _⟩ => show win0_7.index t (0 : Fin 3) * 1 + 1 * (y 0).val = t.val; rw [e]; show t.val * 1 + 1 * (y 0).val = t.val; have := (y 0).isLt; change (y 0).val < 1 at this; omega
  | ⟨1, _⟩ => show win0_7.index t (1 : Fin 3) * 256 + 1 * (y 1).val = (y 1).val; rw [e]; show 0 * 256 + 1 * (y 1).val = (y 1).val; omega
  | ⟨2, _⟩ => show win0_7.index t (2 : Fin 3) * 8 + 1 * (y 2).val = (y 2).val; rw [e]; show 0 * 8 + 1 * (y 2).val = (y 2).val; omega

/-- Output 7's array after the run. -/
theorem final7 (c : Dev nD) : (dats m 0 c).arrAt 7 cfg0.N = scalesK kscl (m ((c : Thread nD τ).loc main_arg1)) :=
  (dats m 0 c).arrAt_eq_of_cover 7 (scalesK kscl (m ((c : Thread nD τ).loc main_arg1)))
    (fun t _ => by
      rw [flushed7_A, out7_eq]
      funext y
      exact (blk7 m c t y).trans (congrArg (scalesK kscl (m ((c : Thread nD τ).loc main_arg1))) (emb7 t y).symm))
    ((by decide +kernel : (cfg0.win 7).Covers).cover _ (Memref.isWhole_whole _))

/-- What a grid point's block of output 8 holds, from the argument arrays. -/
theorem blk8 (c : Dev nD) (t : Fin cfg0.N) (y : S1x256x8x128.Idx) :
    KC (iblk m c 2 t) y = codesK kcode (m ((c : Thread nD τ).loc main_arg2)) (ix4 (batch t) (y 1) (y 2) (y 3)) :=
  congrFun (congrArg kcode (block_row2 m c t (y 1) (y 2))) (y 3)

/-- Where a grid point's block of output 8 lies in the array. -/
theorem emb8 (t : Fin cfg0.N) (y : S1x256x8x128.Idx) : ((cfg0.win 8).blk t).view.emb y = (ix4 (batch t) (y 1) (y 2) (y 3) : S6x256x8x128.Idx) := by
  have e := index8 t
  funext a; apply Fin.ext
  match a with
  | ⟨0, _⟩ => show win0_8.index t (0 : Fin 4) * 1 + 1 * (y 0).val = t.val; rw [e]; show t.val * 1 + 1 * (y 0).val = t.val; have := (y 0).isLt; change (y 0).val < 1 at this; omega
  | ⟨1, _⟩ => show win0_8.index t (1 : Fin 4) * 256 + 1 * (y 1).val = (y 1).val; rw [e]; show 0 * 256 + 1 * (y 1).val = (y 1).val; omega
  | ⟨2, _⟩ => show win0_8.index t (2 : Fin 4) * 8 + 1 * (y 2).val = (y 2).val; rw [e]; show 0 * 8 + 1 * (y 2).val = (y 2).val; omega
  | ⟨3, _⟩ => show win0_8.index t (3 : Fin 4) * 128 + 1 * (y 3).val = (y 3).val; rw [e]; show 0 * 128 + 1 * (y 3).val = (y 3).val; omega

/-- Output 8's array after the run. -/
theorem final8 (c : Dev nD) : (dats m 0 c).arrAt 8 cfg0.N = codesK kcode (m ((c : Thread nD τ).loc main_arg2)) :=
  (dats m 0 c).arrAt_eq_of_cover 8 (codesK kcode (m ((c : Thread nD τ).loc main_arg2)))
    (fun t _ => by
      rw [flushed8_A, out8_eq]
      funext y
      exact (blk8 m c t y).trans (congrArg (codesK kcode (m ((c : Thread nD τ).loc main_arg2))) (emb8 t y).symm))
    ((by decide +kernel : (cfg0.win 8).Covers).cover _ (Memref.isWhole_whole _))

/-- What a grid point's block of output 9 holds, from the argument arrays. -/
theorem blk9 (c : Dev nD) (t : Fin cfg0.N) (y : S1x256x8.Idx) :
    KSC (iblk m c 2 t) y = scalesK kscl (m ((c : Thread nD τ).loc main_arg2)) (ix3 (batch t) (y 1) (y 2)) :=
  congrArg kscl (block_row2 m c t (y 1) (y 2))

/-- Where a grid point's block of output 9 lies in the array. -/
theorem emb9 (t : Fin cfg0.N) (y : S1x256x8.Idx) : ((cfg0.win 9).blk t).view.emb y = (ix3 (batch t) (y 1) (y 2) : S6x256x8.Idx) := by
  have e := index9 t
  funext a; apply Fin.ext
  match a with
  | ⟨0, _⟩ => show win0_9.index t (0 : Fin 3) * 1 + 1 * (y 0).val = t.val; rw [e]; show t.val * 1 + 1 * (y 0).val = t.val; have := (y 0).isLt; change (y 0).val < 1 at this; omega
  | ⟨1, _⟩ => show win0_9.index t (1 : Fin 3) * 256 + 1 * (y 1).val = (y 1).val; rw [e]; show 0 * 256 + 1 * (y 1).val = (y 1).val; omega
  | ⟨2, _⟩ => show win0_9.index t (2 : Fin 3) * 8 + 1 * (y 2).val = (y 2).val; rw [e]; show 0 * 8 + 1 * (y 2).val = (y 2).val; omega

/-- Output 9's array after the run. -/
theorem final9 (c : Dev nD) : (dats m 0 c).arrAt 9 cfg0.N = scalesK kscl (m ((c : Thread nD τ).loc main_arg2)) :=
  (dats m 0 c).arrAt_eq_of_cover 9 (scalesK kscl (m ((c : Thread nD τ).loc main_arg2)))
    (fun t _ => by
      rw [flushed9_A, out9_eq]
      funext y
      exact (blk9 m c t y).trans (congrArg (scalesK kscl (m ((c : Thread nD τ).loc main_arg2))) (emb9 t y).symm))
    ((by decide +kernel : (cfg0.win 9).Covers).cover _ (Memref.isWhole_whole _))

/-- What a grid point's block of output 10 holds, from the argument arrays. -/
theorem blk10 (c : Dev nD) (t : Fin cfg0.N) (y : S1x24x256x128.Idx) :
    LOC (iblk m c 0 t) (iblk m c 1 t) (iblk m c 2 t) y = localAttn kcode kscl (m ((c : Thread nD τ).loc main_arg0)) (m ((c : Thread nD τ).loc main_arg1)) (m ((c : Thread nD τ).loc main_arg2)) (ix4 (batch t) (y 1) (y 2) (y 3)) :=
  attn_congr (funext fun s => congrArg kcode (block_row0 m c t s (y 1)))
    (funext fun s => congrArg kcode (block_row1 m c t s (kvHead (y 1)))) (funext fun s => congrArg kcode (block_row2 m c t s (kvHead (y 1))))
    (funext fun s => congrArg kscl (block_row0 m c t s (y 1)))
    (funext fun s => congrArg kscl (block_row1 m c t s (kvHead (y 1)))) (funext fun s => congrArg kscl (block_row2 m c t s (kvHead (y 1)))) (y 2) (y 3)

/-- Where a grid point's block of output 10 lies in the array. -/
theorem emb10 (t : Fin cfg0.N) (y : S1x24x256x128.Idx) : ((cfg0.win 10).blk t).view.emb y = (ix4 (batch t) (y 1) (y 2) (y 3) : S6x24x256x128.Idx) := by
  have e := index10 t
  funext a; apply Fin.ext
  match a with
  | ⟨0, _⟩ => show win0_10.index t (0 : Fin 4) * 1 + 1 * (y 0).val = t.val; rw [e]; show t.val * 1 + 1 * (y 0).val = t.val; have := (y 0).isLt; change (y 0).val < 1 at this; omega
  | ⟨1, _⟩ => show win0_10.index t (1 : Fin 4) * 24 + 1 * (y 1).val = (y 1).val; rw [e]; show 0 * 24 + 1 * (y 1).val = (y 1).val; omega
  | ⟨2, _⟩ => show win0_10.index t (2 : Fin 4) * 256 + 1 * (y 2).val = (y 2).val; rw [e]; show 0 * 256 + 1 * (y 2).val = (y 2).val; omega
  | ⟨3, _⟩ => show win0_10.index t (3 : Fin 4) * 128 + 1 * (y 3).val = (y 3).val; rw [e]; show 0 * 128 + 1 * (y 3).val = (y 3).val; omega

/-- Output 10's array after the run. -/
theorem final10 (c : Dev nD) : (dats m 0 c).arrAt 10 cfg0.N = localAttn kcode kscl (m ((c : Thread nD τ).loc main_arg0)) (m ((c : Thread nD τ).loc main_arg1)) (m ((c : Thread nD τ).loc main_arg2)) :=
  (dats m 0 c).arrAt_eq_of_cover 10 (localAttn kcode kscl (m ((c : Thread nD τ).loc main_arg0)) (m ((c : Thread nD τ).loc main_arg1)) (m ((c : Thread nD τ).loc main_arg2)))
    (fun t _ => by
      rw [flushed10_A, out10_eq]
      funext y
      exact (blk10 m c t y).trans (congrArg (localAttn kcode kscl (m ((c : Thread nD τ).loc main_arg0)) (m ((c : Thread nD τ).loc main_arg1)) (m ((c : Thread nD τ).loc main_arg2))) (emb10 t y).symm))
    ((by decide +kernel : (cfg0.win 10).Covers).cover _ (Memref.isWhole_whole _))

end Cert.KernelIdeal.Row
-- ==== Proof.FoldLem.lean ====
/- A host maximum or minimum over one axis, at an element: the fold of that axis's elements. -/
module

public import Idealize.ShloMosaic.Lib.Pointwise
public import Idealize.ShloMosaic.Lib.IdealHost
public import Idealize.ShloMosaic.PureOps.Ideal.Laws

@[expose] public section

noncomputable section
namespace Cert.Fold
open Idealize.ShloMosaic Idealize.ShloMosaic.Tactic

variable {n0 n1 n2 n3 n4 : ℕ} {u : Shape}

/-- A host maximum over the last of four axes. -/
theorem max_last4 (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.univ.fold max (init (Shape.Idx.first hu)) fun k => x (ix4 a b c k) := by
  rw [Host.reduce_eq_fold, Shape.ReducesTo.fold_fiber_r4_a3]
  rfl

/-- A host minimum over the last of four axes. -/
theorem min_last4 (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.minimumf x init h hu (ix3 a b c) = Finset.univ.fold min (init (Shape.Idx.first hu)) fun k => x (ix4 a b c k) := by
  rw [Host.reduce_eq_fold, Shape.ReducesTo.fold_fiber_r4_a3]
  rfl

/-- A host maximum over the middle of five axes. -/
theorem max_mid5 (x : FVec Ideal ⟨5, ![n0, n1, n2, n3, n4]⟩ .f32) (init : FVec Ideal u .f32)
    (h : (⟨5, ![n0, n1, n2, n3, n4]⟩ : Shape).ReducesTo [2] ⟨4, ![n0, n1, n3, n4]⟩) (hu : 0 < u.numel) (a : Fin n0) (b : Fin n1) (c : Fin n3) (d : Fin n4) :
    Host.reduce FloatOps.maximumf x init h hu (ix4 a b c d) = Finset.univ.fold max (init (Shape.Idx.first hu)) fun k => x (ix5 a b k c d) := by
  rw [Host.reduce_eq_fold, Shape.ReducesTo.fold_fiber_r5_a2]
  rfl

end Cert.Fold
-- ==== Proof.RefDefs.lean ====
/- The reference's arrays at an element: the scales, the codes and the attention output of the printed host operations are
   Spec.lean's functions at the quantiser `code` / `scl`. -/
module

public import proofs.«01_k».proof.Proof.Gen.ReferenceIdeal.Frame
public import proofs.«01_k».proof.Proof.Spec
public import proofs.«01_k».proof.Proof.FoldLem
public import Idealize.ShloMosaic.Lib.Pointwise
public import Idealize.ShloMosaic.Lib.IdealHost

@[expose] public section

set_option maxRecDepth 16384

noncomputable section
namespace Cert.ReferenceIdeal.Row
open Cert.ReferenceIdeal Cert.ReferenceIdeal.Gen Idealize.ShloMosaic Cert.Quant Cert.Spec Cert.KernelIdeal.Row Idealize.ShloMosaic.TcCoe Idealize.SL.Sem Idealize.ShloMosaic.Tactic

/-- The powers of two the scale is chosen from. -/
def powers : FVec Ideal S254 .f32 :=
  bitcastToFloat (F := Ideal) .f32 (Host.shli (addi (broadcastInDim S254 ![] bcast_S_S254 (constantI S_ 32 1#32)) (iotaInDim S254 32 0))
    (broadcastInDim S254 ![] bcast_S_S254 (constantI S_ 32 23#32)))

/-- The largest magnitude of each row (queries). -/
def bigQ (x : FVec Ideal S6x256x24x128 .bf16) : FVec Ideal S6x256x24 .f32 :=
  Host.reduce FloatOps.maximumf (Host.absf (extf .f32 x bitsLt_bf16_f32)) (constant (F := Ideal) S_ .f32 0xFF800000#32)
    reducesTo_S6x256x24x128_S6x256x24_d3 h_S_

/-- The largest magnitude of each row over 448 (queries). -/
def yQ (x : FVec Ideal S6x256x24x128 .bf16) : FVec Ideal S6x256x24 .f32 :=
  mulf (bigQ x) (broadcastInDim S6x256x24 ![] bcast_S_S6x256x24 (constant (F := Ideal) S_ .f32 0x3B124925#32))

/-- The powers of two above each row's quotient, infinity elsewhere (queries). -/
def aboveQ (x : FVec Ideal S6x256x24x128 .bf16) : FVec Ideal S6x256x24x254 .f32 :=
  select (cmpf .ogt
      (broadcastInDim S6x256x24x254 ![0, 1, 2, 3] bcast_S1x1x1x254_S6x256x24x254_0_1_2_3 (broadcastInDim S1x1x1x254 ![3] bcast_S254_S1x1x1x254_3 powers))
      (broadcastInDim S6x256x24x254 ![0, 1, 2, 3] bcast_S6x256x24x1_S6x256x24x254_0_1_2_3 (broadcastInDim S6x256x24x1 ![0, 1, 2] bcast_S6x256x24_S6x256x24x1_0_1_2 (yQ x))))
    (broadcastInDim S6x256x24x254 ![3] bcast_S254_S6x256x24x254_3 powers)
    (broadcastInDim S6x256x24x254 ![] bcast_S_S6x256x24x254 (constant (F := Ideal) S_ .f32 0x7F800000#32))

/-- The least power of two above each row's quotient (queries). -/
def leastQ (x : FVec Ideal S6x256x24x128 .bf16) : FVec Ideal S6x256x24 .f32 :=
  Host.reduce FloatOps.minimumf (aboveQ x) (constant (F := Ideal) S_ .f32 0x7F800000#32) reducesTo_S6x256x24x254_S6x256x24_d3 h_S_

/-- The scale of each row (queries). -/
def scaleQ (x : FVec Ideal S6x256x24x128 .bf16) : FVec Ideal S6x256x24 .f32 :=
  select (cmpf .olt (yQ x) (broadcastInDim S6x256x24 ![] bcast_S_S6x256x24 (shapeCast S_ (extractStridedSlice S1 ![0] powers slices_S254_S1_0) shapeCasts_S1_S_)))
    (broadcastInDim S6x256x24 ![] bcast_S_S6x256x24 (constant (F := Ideal) S_ .f32 0x3F800000#32))
    (leastQ x)

/-- The clipped rows over their scales (queries). -/
def clipQ (x : FVec Ideal S6x256x24x128 .bf16) (s : FVec Ideal S6x256x24 .f32) : FVec Ideal S6x256x24x128 .f32 :=
  minimumf (broadcastInDim S6x256x24x128 ![] bcast_S_S6x256x24x128 (constant (F := Ideal) S_ .f32 0x43E00000#32))
    (maximumf (broadcastInDim S6x256x24x128 ![] bcast_S_S6x256x24x128 (constant (F := Ideal) S_ .f32 0xC3E00000#32))
      (mulf (extf .f32 x bitsLt_bf16_f32)
        (broadcastInDim S6x256x24x128 ![0, 1, 2, 3] bcast_S6x256x24x1_S6x256x24x128_0_1_2_3 (broadcastInDim S6x256x24x1 ![0, 1, 2] bcast_S6x256x24_S6x256x24x1_0_1_2
          (Host.divf (broadcastInDim S6x256x24 ![] bcast_S_S6x256x24 (constant (F := Ideal) S_ .f32 0x3F800000#32)) s)))))

/-- The largest magnitude of each row (keys or values). -/
def bigK (x : FVec Ideal S6x256x8x128 .bf16) : FVec Ideal S6x256x8 .f32 :=
  Host.reduce FloatOps.maximumf (Host.absf (extf .f32 x bitsLt_bf16_f32)) (constant (F := Ideal) S_ .f32 0xFF800000#32)
    reducesTo_S6x256x8x128_S6x256x8_d3 h_S_

/-- The largest magnitude of each row over 448 (keys or values). -/
def yK (x : FVec Ideal S6x256x8x128 .bf16) : FVec Ideal S6x256x8 .f32 :=
  mulf (bigK x) (broadcastInDim S6x256x8 ![] bcast_S_S6x256x8 (constant (F := Ideal) S_ .f32 0x3B124925#32))

/-- The powers of two above each row's quotient, infinity elsewhere (keys or values). -/
def aboveK (x : FVec Ideal S6x256x8x128 .bf16) : FVec Ideal S6x256x8x254 .f32 :=
  select (cmpf .ogt
      (broadcastInDim S6x256x8x254 ![0, 1, 2, 3] bcast_S1x1x1x254_S6x256x8x254_0_1_2_3 (broadcastInDim S1x1x1x254 ![3] bcast_S254_S1x1x1x254_3 powers))
      (broadcastInDim S6x256x8x254 ![0, 1, 2, 3] bcast_S6x256x8x1_S6x256x8x254_0_1_2_3 (broadcastInDim S6x256x8x1 ![0, 1, 2] bcast_S6x256x8_S6x256x8x1_0_1_2 (yK x))))
    (broadcastInDim S6x256x8x254 ![3] bcast_S254_S6x256x8x254_3 powers)
    (broadcastInDim S6x256x8x254 ![] bcast_S_S6x256x8x254 (constant (F := Ideal) S_ .f32 0x7F800000#32))

/-- The least power of two above each row's quotient (keys or values). -/
def leastK (x : FVec Ideal S6x256x8x128 .bf16) : FVec Ideal S6x256x8 .f32 :=
  Host.reduce FloatOps.minimumf (aboveK x) (constant (F := Ideal) S_ .f32 0x7F800000#32) reducesTo_S6x256x8x254_S6x256x8_d3 h_S_

/-- The scale of each row (keys or values). -/
def scaleK (x : FVec Ideal S6x256x8x128 .bf16) : FVec Ideal S6x256x8 .f32 :=
  select (cmpf .olt (yK x) (broadcastInDim S6x256x8 ![] bcast_S_S6x256x8 (shapeCast S_ (extractStridedSlice S1 ![0] powers slices_S254_S1_0) shapeCasts_S1_S_)))
    (broadcastInDim S6x256x8 ![] bcast_S_S6x256x8 (constant (F := Ideal) S_ .f32 0x3F800000#32))
    (leastK x)

/-- The clipped rows over their scales (keys or values). -/
def clipK (x : FVec Ideal S6x256x8x128 .bf16) (s : FVec Ideal S6x256x8 .f32) : FVec Ideal S6x256x8x128 .f32 :=
  minimumf (broadcastInDim S6x256x8x128 ![] bcast_S_S6x256x8x128 (constant (F := Ideal) S_ .f32 0x43E00000#32))
    (maximumf (broadcastInDim S6x256x8x128 ![] bcast_S_S6x256x8x128 (constant (F := Ideal) S_ .f32 0xC3E00000#32))
      (mulf (extf .f32 x bitsLt_bf16_f32)
        (broadcastInDim S6x256x8x128 ![0, 1, 2, 3] bcast_S6x256x8x1_S6x256x8x128_0_1_2_3 (broadcastInDim S6x256x8x1 ![0, 1, 2] bcast_S6x256x8_S6x256x8x1_0_1_2
          (Host.divf (broadcastInDim S6x256x8 ![] bcast_S_S6x256x8 (constant (F := Ideal) S_ .f32 0x3F800000#32)) s)))))

/-- The scores of the reference: the product of the codes, times the two scales, times 1/sqrt 128; minus infinity where the
    key comes later. -/
def scores (qf : FVec Ideal S6x256x24x128 .f32) (kf : FVec Ideal S6x256x8x128 .f32) (qs : FVec Ideal S6x256x24 .f32) (ks : FVec Ideal S6x256x8 .f32) :
    FVec Ideal S6x256x256x8x3 .f32 :=
  select (broadcastInDim S6x256x256x8x3 ![0, 1, 2, 3, 4] bcast_S1x256x256x1x1_S6x256x256x8x3_0_1_2_3_4
      (broadcastInDim S1x256x256x1x1 ![1, 2] bcast_S256x256_S1x256x256x1x1_1_2
        (cmpi .sgt (broadcastInDim S256x256 ![0, 1] bcast_S1x256_S256x256_0_1 (broadcastInDim S1x256 ![1] bcast_S256_S1x256_1 (iotaInDim S256 32 0)))
          (broadcastInDim S256x256 ![0, 1] bcast_S256x1_S256x256_0_1 (broadcastInDim S256x1 ![0] bcast_S256_S256x1_0 (iotaInDim S256 32 0))))))
    (broadcastInDim S6x256x256x8x3 ![] bcast_S_S6x256x256x8x3 (constant (F := Ideal) S_ .f32 0xFF800000#32))
    (mulf (mulf (mulf
      (transpose S6x256x256x8x3 [0, 3, 2, 1, 4] (Host.dotGeneral dot_S6x256x8x128_S6x256x8x3x128_S6x8x256x256x3_3_4_1_13_02_02 none kf
        (shapeCast S6x256x8x3x128 qf shapeCasts_S6x256x24x128_S6x256x8x3x128) : FVec Ideal S6x8x256x256x3 .f32) transposes_S6x8x256x256x3_S6x256x256x8x3_0_3_2_1_4)
      (broadcastInDim S6x256x256x8x3 ![0, 1, 2, 3, 4] bcast_S6x256x1x8x3_S6x256x256x8x3_0_1_2_3_4 (shapeCast S6x256x1x8x3 qs shapeCasts_S6x256x24_S6x256x1x8x3)))
      (broadcastInDim S6x256x256x8x3 ![0, 1, 2, 3, 4] bcast_S6x1x256x8x1_S6x256x256x8x3_0_1_2_3_4 (broadcastInDim S6x1x256x8x1 ![0, 2, 3] bcast_S6x256x8_S6x1x256x8x1_0_2_3 ks)))
      (broadcastInDim S6x256x256x8x3 ![] bcast_S_S6x256x256x8x3 (constant (F := Ideal) S_ .f32 0x3DB504F3#32)))

/-- Each query's largest score. -/
def tops (sc : FVec Ideal S6x256x256x8x3 .f32) : FVec Ideal S6x256x8x3 .f32 :=
  Host.reduce FloatOps.maximumf sc (constant (F := Ideal) S_ .f32 0xFF800000#32) reducesTo_S6x256x256x8x3_S6x256x8x3_d2 h_S_

/-- The exponentials of the scores less each query's largest. -/
def weights (sc : FVec Ideal S6x256x256x8x3 .f32) : FVec Ideal S6x256x256x8x3 .f32 :=
  Host.exp (subf sc (broadcastInDim S6x256x256x8x3 ![0, 1, 2, 3, 4] bcast_S6x256x1x8x3_S6x256x256x8x3_0_1_2_3_4
    (broadcastInDim S6x256x1x8x3 ![0, 1, 3, 4] bcast_S6x256x8x3_S6x256x1x8x3_0_1_3_4
      (maximumf (broadcastInDim S6x256x8x3 ![] bcast_S_S6x256x8x3 (constant (F := Ideal) S_ .f32 0xFF800000#32))
        (tops sc)))))

/-- The attention output from the exponentials. -/
def mixed (e : FVec Ideal S6x256x256x8x3 .f32) (vf : FVec Ideal S6x256x8x128 .f32) (vs : FVec Ideal S6x256x8 .f32) : FVec Ideal S6x24x256x128 .f32 :=
  transpose S6x24x256x128 [0, 2, 1, 3] (shapeCast S6x256x24x128 (transpose S6x256x8x3x128 [0, 3, 1, 4, 2]
    (Host.dotGeneral dot_S6x256x8x128_S6x256x256x8x3_S6x8x128x256x3_1_2_3_14_02_03 none (truncf .bf16 vf bitsLt_bf16_f32)
      (truncf .bf16 (mulf (Host.divf e (broadcastInDim S6x256x256x8x3 ![0, 1, 2, 3, 4] bcast_S6x256x1x8x3_S6x256x256x8x3_0_1_2_3_4
          (broadcastInDim S6x256x1x8x3 ![0, 1, 3, 4] bcast_S6x256x8x3_S6x256x1x8x3_0_1_3_4
            (Host.reduceAdd e (constant (F := Ideal) S_ .f32 0x00000000#32) reducesTo_S6x256x256x8x3_S6x256x8x3_d2 h_S_))))
        (broadcastInDim S6x256x256x8x3 ![0, 1, 2, 3, 4] bcast_S6x1x256x8x1_S6x256x256x8x3_0_1_2_3_4 (broadcastInDim S6x1x256x8x1 ![0, 2, 3] bcast_S6x256x8_S6x1x256x8x1_0_2_3 vs)))
        bitsLt_bf16_f32) : FVec Ideal S6x8x128x256x3 .f32) transposes_S6x8x128x256x3_S6x256x8x3x128_0_3_1_4_2) shapeCasts_S6x256x8x3x128_S6x256x24x128)
    transposes_S6x256x24x128_S6x24x256x128_0_2_1_3

/-- A query head's place among the three that share its key head. -/
def within (h : Fin 24) : Fin 3 := ⟨h.val % 3, Nat.mod_lt _ (by decide)⟩

/-- Query head `g` of the three that share key head `kv`. -/
def headOf (kv : Fin 8) (g : Fin 3) : Fin 24 := ⟨3 * kv.val + g.val, by omega⟩

end Cert.ReferenceIdeal.Row
-- ==== Proof.RefEval.lean ====
/- The reference's arrays at an element: the scales, the codes and the attention output of the printed host operations are
   Spec.lean's functions at the quantiser `code` / `scl`. -/
module

public import proofs.«01_k».proof.Proof.RefDefs
public import proofs.«01_k».proof.Proof.Spec
public import proofs.«01_k».proof.Proof.FoldLem
public import Idealize.ShloMosaic.Lib.Pointwise
public import Idealize.ShloMosaic.Lib.IdealHost

@[expose] public section

set_option maxRecDepth 16384

noncomputable section
namespace Cert.ReferenceIdeal.Row
open Cert.ReferenceIdeal Cert.ReferenceIdeal.Gen Idealize.ShloMosaic Cert.Quant Cert.Spec Cert.KernelIdeal.Row Idealize.ShloMosaic.TcCoe Idealize.SL.Sem Idealize.ShloMosaic.Tactic

/-- Power `n` of the table. -/
theorem powers_apply (n : Fin 254) : powers (ix1 n) = pw (n.val + 1) := by
  unfold powers
  pointwise
  unfold pw
  refine congrArg (Ideal.ofBits .f32) ?_
  revert n; decide +kernel

/-- `bigQ` at an element. -/
theorem bigQ_apply (x : FVec Ideal S6x256x24x128 .bf16) (b : Fin 6) (s : Fin 256) (h : Fin 24) : bigQ x (ix3 b s h) = amax (rowQ x b s h) := by
  unfold bigQ
  exact (Cert.Fold.max_last4 _ _ _ _ _ _ _).trans rfl

/-- A row quantity over 448. -/
theorem overQ_apply (a : FVec Ideal S6x256x24 .f32) (b : Fin 6) (s : Fin 256) (h : Fin 24) :
    mulf a (broadcastInDim S6x256x24 ![] bcast_S_S6x256x24 (constant (F := Ideal) S_ .f32 0x3B124925#32)) (ix3 b s h) = a (ix3 b s h) * Ideal.ofBits .f32 0x3B124925#32 := by
  pointwise

/-- `yQ` at an element. -/
theorem yQ_apply (x : FVec Ideal S6x256x24x128 .bf16) (b : Fin 6) (s : Fin 256) (h : Fin 24) : yQ x (ix3 b s h) = yq (rowQ x b s h) := by
  exact (overQ_apply (bigQ x) b s h).trans (congrArg (· * Ideal.ofBits .f32 0x3B124925#32) (bigQ_apply x b s h))

/-- `aboveQ` at an element. -/
theorem aboveQ_apply (x : FVec Ideal S6x256x24x128 .bf16) (b : Fin 6) (s : Fin 256) (h : Fin 24) (n : Fin 254) :
    aboveQ x (ix4 b s h n) = if yq (rowQ x b s h) < pw (n.val + 1) then pw (n.val + 1) else ⊤ := by
  unfold aboveQ
  pointwise [yQ_apply, powers_apply]
  rw [ofBits_pinf]

/-- `leastQ` at an element. -/
theorem leastQ_apply (x : FVec Ideal S6x256x24x128 .bf16) (b : Fin 6) (s : Fin 256) (h : Fin 24) :
    leastQ x (ix3 b s h) = Finset.univ.fold min ⊤ fun n : Fin 254 => if yq (rowQ x b s h) < pw (n.val + 1) then pw (n.val + 1) else ⊤ := by
  unfold leastQ
  refine (Cert.Fold.min_last4 _ _ _ _ _ _ _).trans ?_
  simp only [aboveQ_apply]
  exact congrArg (fun a => Finset.univ.fold min a _) ofBits_pinf

/-- The choice between 1 and the least power. -/
theorem chooseQ_apply (y l : FVec Ideal S6x256x24 .f32) (b : Fin 6) (s : Fin 256) (h : Fin 24) :
    select (cmpf .olt y (broadcastInDim S6x256x24 ![] bcast_S_S6x256x24 (shapeCast S_ (extractStridedSlice S1 ![0] powers slices_S254_S1_0) shapeCasts_S1_S_)))
      (broadcastInDim S6x256x24 ![] bcast_S_S6x256x24 (constant (F := Ideal) S_ .f32 0x3F800000#32)) l (ix3 b s h)
      = if y (ix3 b s h) < pw 1 then 1 else l (ix3 b s h) := by
  pointwise [powers_apply]

/-- `scaleQ` at an element. -/
theorem scaleQ_apply (x : FVec Ideal S6x256x24x128 .bf16) (b : Fin 6) (s : Fin 256) (h : Fin 24) : scaleQ x (ix3 b s h) = scl (rowQ x b s h) := by
  refine (chooseQ_apply (yQ x) (leastQ x) b s h).trans ?_
  rw [yQ_apply, leastQ_apply]
  rfl

/-- `clipQ` at an element, for any scales. -/
theorem clipQ_at (x : FVec Ideal S6x256x24x128 .bf16) (a : FVec Ideal S6x256x24 .f32) (b : Fin 6) (s : Fin 256) (h : Fin 24) (d : Fin 128) :
    clipQ x a (ix4 b s h d) = min (Ideal.ofBits .f32 0x43E00000#32) (max (Ideal.ofBits .f32 0xC3E00000#32) (x (ix4 b s h d) * Ideal.div 1 (a (ix3 b s h)))) := by
  unfold clipQ
  pointwise

/-- `clipQ` at an element. -/
theorem clipQ_apply (x : FVec Ideal S6x256x24x128 .bf16) (b : Fin 6) (s : Fin 256) (h : Fin 24) (d : Fin 128) : clipQ x (scaleQ x) (ix4 b s h d) = code (rowQ x b s h) d := by
  refine (clipQ_at x (scaleQ x) b s h d).trans ?_
  rw [scaleQ_apply]
  rfl

/-- `bigK` at an element. -/
theorem bigK_apply (x : FVec Ideal S6x256x8x128 .bf16) (b : Fin 6) (s : Fin 256) (h : Fin 8) : bigK x (ix3 b s h) = amax (rowK x b s h) := by
  unfold bigK
  exact (Cert.Fold.max_last4 _ _ _ _ _ _ _).trans rfl

/-- A row quantity over 448. -/
theorem overK_apply (a : FVec Ideal S6x256x8 .f32) (b : Fin 6) (s : Fin 256) (h : Fin 8) :
    mulf a (broadcastInDim S6x256x8 ![] bcast_S_S6x256x8 (constant (F := Ideal) S_ .f32 0x3B124925#32)) (ix3 b s h) = a (ix3 b s h) * Ideal.ofBits .f32 0x3B124925#32 := by
  pointwise

/-- `yK` at an element. -/
theorem yK_apply (x : FVec Ideal S6x256x8x128 .bf16) (b : Fin 6) (s : Fin 256) (h : Fin 8) : yK x (ix3 b s h) = yq (rowK x b s h) := by
  exact (overK_apply (bigK x) b s h).trans (congrArg (· * Ideal.ofBits .f32 0x3B124925#32) (bigK_apply x b s h))

/-- `aboveK` at an element. -/
theorem aboveK_apply (x : FVec Ideal S6x256x8x128 .bf16) (b : Fin 6) (s : Fin 256) (h : Fin 8) (n : Fin 254) :
    aboveK x (ix4 b s h n) = if yq (rowK x b s h) < pw (n.val + 1) then pw (n.val + 1) else ⊤ := by
  unfold aboveK
  pointwise [yK_apply, powers_apply]
  rw [ofBits_pinf]

/-- `leastK` at an element. -/
theorem leastK_apply (x : FVec Ideal S6x256x8x128 .bf16) (b : Fin 6) (s : Fin 256) (h : Fin 8) :
    leastK x (ix3 b s h) = Finset.univ.fold min ⊤ fun n : Fin 254 => if yq (rowK x b s h) < pw (n.val + 1) then pw (n.val + 1) else ⊤ := by
  unfold leastK
  refine (Cert.Fold.min_last4 _ _ _ _ _ _ _).trans ?_
  simp only [aboveK_apply]
  exact congrArg (fun a => Finset.univ.fold min a _) ofBits_pinf

/-- The choice between 1 and the least power. -/
theorem chooseK_apply (y l : FVec Ideal S6x256x8 .f32) (b : Fin 6) (s : Fin 256) (h : Fin 8) :
    select (cmpf .olt y (broadcastInDim S6x256x8 ![] bcast_S_S6x256x8 (shapeCast S_ (extractStridedSlice S1 ![0] powers slices_S254_S1_0) shapeCasts_S1_S_)))
      (broadcastInDim S6x256x8 ![] bcast_S_S6x256x8 (constant (F := Ideal) S_ .f32 0x3F800000#32)) l (ix3 b s h)
      = if y (ix3 b s h) < pw 1 then 1 else l (ix3 b s h) := by
  pointwise [powers_apply]

/-- `scaleK` at an element. -/
theorem scaleK_apply (x : FVec Ideal S6x256x8x128 .bf16) (b : Fin 6) (s : Fin 256) (h : Fin 8) : scaleK x (ix3 b s h) = scl (rowK x b s h) := by
  refine (chooseK_apply (yK x) (leastK x) b s h).trans ?_
  rw [yK_apply, leastK_apply]
  rfl

/-- `clipK` at an element, for any scales. -/
theorem clipK_at (x : FVec Ideal S6x256x8x128 .bf16) (a : FVec Ideal S6x256x8 .f32) (b : Fin 6) (s : Fin 256) (h : Fin 8) (d : Fin 128) :
    clipK x a (ix4 b s h d) = min (Ideal.ofBits .f32 0x43E00000#32) (max (Ideal.ofBits .f32 0xC3E00000#32) (x (ix4 b s h d) * Ideal.div 1 (a (ix3 b s h)))) := by
  unfold clipK
  pointwise

/-- `clipK` at an element. -/
theorem clipK_apply (x : FVec Ideal S6x256x8x128 .bf16) (b : Fin 6) (s : Fin 256) (h : Fin 8) (d : Fin 128) : clipK x (scaleK x) (ix4 b s h d) = code (rowK x b s h) d := by
  refine (clipK_at x (scaleK x) b s h d).trans ?_
  rw [scaleK_apply]
  rfl

/-- `scores` at an element. -/
theorem scores_apply (qf : FVec Ideal S6x256x24x128 .f32) (kf : FVec Ideal S6x256x8x128 .f32) (qs : FVec Ideal S6x256x24 .f32) (ks : FVec Ideal S6x256x8 .f32)
    (b : Fin 6) (s t : Fin 256) (kv : Fin 8) (g : Fin 3) :
    scores qf kf qs ks (ix5 b s t kv g) = score (fun s d => qf (ix4 b s (headOf kv g) d)) (fun t d => kf (ix4 b t kv d))
      (fun s => qs (ix3 b s (headOf kv g))) (fun t => ks (ix3 b t kv)) s t := by
  have e : ∀ p, (⟨kv.val * 3 + g.val, p⟩ : Fin 24) = headOf kv g := fun p => Fin.ext (congrArg (· + g.val) (Nat.mul_comm kv.val 3))
  unfold scores
  pointwise
  simp only [e]
  unfold score
  refine congrArg (fun a => Scalar.select _ _ (a * _ * _ * _)) (Finset.sum_congr rfl fun d _ => mul_comm _ _)

/-- `tops` at an element. -/
theorem tops_apply (sc : FVec Ideal S6x256x256x8x3 .f32) (b : Fin 6) (s : Fin 256) (kv : Fin 8) (g : Fin 3) :
    tops sc (ix4 b s kv g) = Finset.univ.fold max (Ideal.ofBits .f32 0xFF800000#32) fun t => sc (ix5 b s t kv g) := by
  unfold tops
  exact (Cert.Fold.max_mid5 _ _ _ _ _ _ _ _).trans rfl

/-- The exponential of a score less a bound of its query. -/
theorem less_apply (sc : FVec Ideal S6x256x256x8x3 .f32) (a : FVec Ideal S6x256x8x3 .f32) (b : Fin 6) (s t : Fin 256) (kv : Fin 8) (g : Fin 3) :
    Host.exp (subf sc (broadcastInDim S6x256x256x8x3 ![0, 1, 2, 3, 4] bcast_S6x256x1x8x3_S6x256x256x8x3_0_1_2_3_4
    (broadcastInDim S6x256x1x8x3 ![0, 1, 3, 4] bcast_S6x256x8x3_S6x256x1x8x3_0_1_3_4
      (maximumf (broadcastInDim S6x256x8x3 ![] bcast_S_S6x256x8x3 (constant (F := Ideal) S_ .f32 0xFF800000#32)) a)))) (ix5 b s t kv g)
      = Ideal.exp (sc (ix5 b s t kv g) - max (Ideal.ofBits .f32 0xFF800000#32) (a (ix4 b s kv g))) := by
  pointwise

/-- `weights` at an element. -/
theorem weights_apply (sc : FVec Ideal S6x256x256x8x3 .f32) (b : Fin 6) (s t : Fin 256) (kv : Fin 8) (g : Fin 3) :
    weights sc (ix5 b s t kv g) = Ideal.exp (sc (ix5 b s t kv g) - Finset.univ.fold max (Ideal.ofBits .f32 0xFF800000#32) fun t => sc (ix5 b s t kv g)) := by
  refine (less_apply sc (tops sc) b s t kv g).trans ?_
  rw [tops_apply, ofBits_ninf, max_eq_right bot_le]

/-- `mixed` at an element. -/
theorem mixed_apply (e : FVec Ideal S6x256x256x8x3 .f32) (vf : FVec Ideal S6x256x8x128 .f32) (vs : FVec Ideal S6x256x8 .f32) (b : Fin 6) (h : Fin 24) (s : Fin 256) (d : Fin 128) :
    mixed e vf vs (ix4 b h s d) = ∑ t, Ideal.div (e (ix5 b s t (kvHead h) (within h))) (∑ t, e (ix5 b s t (kvHead h) (within h)))
      * vs (ix3 b t (kvHead h)) * vf (ix4 b t (kvHead h) d) := by
  unfold mixed
  pointwise
  exact Finset.sum_congr rfl fun t _ => mul_comm _ _

/-- The reference's attention output at an element. -/
theorem local_apply (qf : FVec Ideal S6x256x24x128 .f32) (kf vf : FVec Ideal S6x256x8x128 .f32) (qs : FVec Ideal S6x256x24 .f32) (ks vs : FVec Ideal S6x256x8 .f32)
    (b : Fin 6) (h : Fin 24) (s : Fin 256) (d : Fin 128) :
    mixed (weights (scores qf kf qs ks)) vf vs (ix4 b h s d)
      = attn (fun s d => qf (ix4 b s h d)) (fun t d => kf (ix4 b t (kvHead h) d)) (fun t d => vf (ix4 b t (kvHead h) d))
          (fun s => qs (ix3 b s h)) (fun t => ks (ix3 b t (kvHead h))) (fun t => vs (ix3 b t (kvHead h))) s d := by
  have e : headOf (kvHead h) (within h) = h := Fin.ext (Nat.div_add_mod h.val 3)
  rw [mixed_apply]
  simp only [weights_apply, scores_apply, e]
  rfl

/-- The reference's query scales. -/
theorem scaleQ_eq (x : FVec Ideal S6x256x24x128 .bf16) : scaleQ x = scalesQ scl x := by
  funext j
  rw [eq_ix3 j]
  exact scaleQ_apply x _ _ _

/-- The reference's key (or value) scales. -/
theorem scaleK_eq (x : FVec Ideal S6x256x8x128 .bf16) : scaleK x = scalesK scl x := by
  funext j
  rw [eq_ix3 j]
  exact scaleK_apply x _ _ _

/-- The reference's query codes. -/
theorem clipQ_eq (x : FVec Ideal S6x256x24x128 .bf16) : clipQ x (scaleQ x) = codesQ code x := by
  funext j
  rw [eq_ix4 j]
  exact clipQ_apply x _ _ _ _

/-- The reference's key (or value) codes. -/
theorem clipK_eq (x : FVec Ideal S6x256x8x128 .bf16) : clipK x (scaleK x) = codesK code x := by
  funext j
  rw [eq_ix4 j]
  exact clipK_apply x _ _ _ _

/-- The reference's attention output. -/
theorem local_eq (q : FVec Ideal S6x256x24x128 .bf16) (k v : FVec Ideal S6x256x8x128 .bf16) :
    mixed (weights (scores (clipQ q (scaleQ q)) (clipK k (scaleK k)) (scaleQ q) (scaleK k))) (clipK v (scaleK v)) (scaleK v)
      = localAttn code scl q k v := by
  funext j
  rw [eq_ix4 j, clipQ_eq, clipK_eq, clipK_eq, scaleQ_eq, scaleK_eq, scaleK_eq]
  exact local_apply _ _ _ _ _ _ _ _ _ _

end Cert.ReferenceIdeal.Row
-- ==== Proof.RefArrays.lean ====
module

public import proofs.«01_k».proof.Proof.RefEval
public import Idealize.ShloMosaic.Lib.StableHlo.RunRead
public import Idealize.ShloMosaic.Lib.Pipeline.ValueKit.Geometry

@[expose] public section

set_option maxRecDepth 16384

noncomputable section
namespace Cert.ReferenceIdeal.Row
open Cert.ReferenceIdeal Cert.ReferenceIdeal.Gen Idealize.ShloMosaic Cert.Quant Cert.Spec Idealize.ShloMosaic.TcCoe Idealize.SL.Sem Idealize.ShloMosaic.Tactic

variable (m : (ℓ : Loc nD τ sig) → Buf (Elt Ideal) ℓ)

/-- What the lines before the call leave in `main_v22`. -/
theorem V_v22 (c : Dev nD) : V m c main_v22 = scaleQ (m ((c : Thread nD τ).loc main_arg0)) := by
  unfold V V0
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold scaleQ leastQ aboveQ yQ bigQ powers
  rfl

/-- What the lines before the call leave in `main_v45`. -/
theorem V_v45 (c : Dev nD) : V m c main_v45 = scaleK (m ((c : Thread nD τ).loc main_arg1)) := by
  unfold V V0
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold scaleK leastK aboveK yK bigK powers
  rfl

/-- What the lines before the call leave in `main_v68`. -/
theorem V_v68 (c : Dev nD) : V m c main_v68 = scaleK (m ((c : Thread nD τ).loc main_arg2)) := by
  unfold V V0
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold scaleK leastK aboveK yK bigK powers
  rfl

/-- What the lines before the call leave in `main_v75`. -/
theorem V_v75 (c : Dev nD) : V m c main_v75 = clipQ (m ((c : Thread nD τ).loc main_arg0)) (scaleQ (m ((c : Thread nD τ).loc main_arg0))) := by
  unfold V V0
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold clipQ scaleQ leastQ aboveQ yQ bigQ powers
  rfl

/-- What the lines before the call leave in `main_v82`. -/
theorem V_v82 (c : Dev nD) : V m c main_v82 = clipK (m ((c : Thread nD τ).loc main_arg1)) (scaleK (m ((c : Thread nD τ).loc main_arg1))) := by
  unfold V V0
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold clipK scaleK leastK aboveK yK bigK powers
  rfl

/-- What the lines before the call leave in `main_v89`. -/
theorem V_v89 (c : Dev nD) : V m c main_v89 = clipK (m ((c : Thread nD τ).loc main_arg2)) (scaleK (m ((c : Thread nD τ).loc main_arg2))) := by
  unfold V V0
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold clipK scaleK leastK aboveK yK bigK powers
  rfl

theorem hz : (![0, 0, 0, 0] : Fin 4 → Nat) = fun _ => 0 := funext fun a => by fin_cases a <;> rfl

/-- Input window 0's block is its whole array. -/
theorem emb0 (t : Fin cfg0.N) (j : S6x256x24x128.Idx) : ((cfg0.win 0).blk t).view.emb j = j := by
  have e : ∀ a : Fin 4, win0_0.index t a = 0 := fun a => by fin_cases a <;> rfl
  funext a; apply Fin.ext
  match a with
  | ⟨0, _⟩ => show win0_0.index t (0 : Fin 4) * 6 + 1 * (j 0).val = (j 0).val; rw [e]; omega
  | ⟨1, _⟩ => show win0_0.index t (1 : Fin 4) * 256 + 1 * (j 1).val = (j 1).val; rw [e]; omega
  | ⟨2, _⟩ => show win0_0.index t (2 : Fin 4) * 24 + 1 * (j 2).val = (j 2).val; rw [e]; omega
  | ⟨3, _⟩ => show win0_0.index t (3 : Fin 4) * 128 + 1 * (j 3).val = (j 3).val; rw [e]; omega

/-- So the call reads the whole of `main_v75` there. -/
theorem iblk0_eq (c : Dev nD) (t : Fin cfg0.N) : iblk m c 0 t = V m c main_v75 := by
  funext j; show V m c main_v75 (((cfg0.win 0).blk t).view.emb j) = V m c main_v75 j; rw [emb0]

/-- Output window 3's block is its whole array. -/
theorem emb3 (t : Fin cfg0.N) (j : S6x256x24x128.Idx) : ((cfg0.win 3).blk t).view.emb j = j := by
  have e : ∀ a : Fin 4, win0_3.index t a = 0 := fun a => by fin_cases a <;> rfl
  funext a; apply Fin.ext
  match a with
  | ⟨0, _⟩ => show win0_3.index t (0 : Fin 4) * 6 + 1 * (j 0).val = (j 0).val; rw [e]; omega
  | ⟨1, _⟩ => show win0_3.index t (1 : Fin 4) * 256 + 1 * (j 1).val = (j 1).val; rw [e]; omega
  | ⟨2, _⟩ => show win0_3.index t (2 : Fin 4) * 24 + 1 * (j 2).val = (j 2).val; rw [e]; omega
  | ⟨3, _⟩ => show win0_3.index t (3 : Fin 4) * 128 + 1 * (j 3).val = (j 3).val; rw [e]; omega

/-- Over the extended reals a conversion keeps the value: the call's output 3 is its input. -/
theorem out3_eq (x0 : FVec Ideal S6x256x24x128 .f32) (x1 x2 : FVec Ideal S6x256x8x128 .f32) : out0_3 (F := Ideal) x0 x1 x2 = x0 := by
  unfold out0_3
  rw [View.canon_unit_zero hz, View.ld_unit_zero hz]
  unfold k0_pay1
  funext j
  rw [eq_ix4 j]
  pointwise

/-- The call's output 3: the codes. -/
theorem arr3 (c : Dev nD) : (dats m 0 c).arrAt 3 cfg0.N = codesQ code (m ((c : Thread nD τ).loc main_arg0)) :=
  ((dats m 0 c).arrAt_eq_of_cover 3 (V m c main_v75) (fun t _ => by
      show (dats m 0 c).after 3 t = _
      rw [after0_3, out3_eq, iblk0_eq]
      funext j
      show V m c main_v75 j = V m c main_v75 (((cfg0.win 3).blk t).view.emb j)
      rw [emb3]) ((by decide +kernel : (cfg0.win 3).Covers).cover _ (Memref.isWhole_whole _))).trans
    ((V_v75 m c).trans (clipQ_eq _))

/-- Input window 1's block is its whole array. -/
theorem emb1 (t : Fin cfg0.N) (j : S6x256x8x128.Idx) : ((cfg0.win 1).blk t).view.emb j = j := by
  have e : ∀ a : Fin 4, win0_1.index t a = 0 := fun a => by fin_cases a <;> rfl
  funext a; apply Fin.ext
  match a with
  | ⟨0, _⟩ => show win0_1.index t (0 : Fin 4) * 6 + 1 * (j 0).val = (j 0).val; rw [e]; omega
  | ⟨1, _⟩ => show win0_1.index t (1 : Fin 4) * 256 + 1 * (j 1).val = (j 1).val; rw [e]; omega
  | ⟨2, _⟩ => show win0_1.index t (2 : Fin 4) * 8 + 1 * (j 2).val = (j 2).val; rw [e]; omega
  | ⟨3, _⟩ => show win0_1.index t (3 : Fin 4) * 128 + 1 * (j 3).val = (j 3).val; rw [e]; omega

/-- So the call reads the whole of `main_v82` there. -/
theorem iblk1_eq (c : Dev nD) (t : Fin cfg0.N) : iblk m c 1 t = V m c main_v82 := by
  funext j; show V m c main_v82 (((cfg0.win 1).blk t).view.emb j) = V m c main_v82 j; rw [emb1]

/-- Output window 4's block is its whole array. -/
theorem emb4 (t : Fin cfg0.N) (j : S6x256x8x128.Idx) : ((cfg0.win 4).blk t).view.emb j = j := by
  have e : ∀ a : Fin 4, win0_4.index t a = 0 := fun a => by fin_cases a <;> rfl
  funext a; apply Fin.ext
  match a with
  | ⟨0, _⟩ => show win0_4.index t (0 : Fin 4) * 6 + 1 * (j 0).val = (j 0).val; rw [e]; omega
  | ⟨1, _⟩ => show win0_4.index t (1 : Fin 4) * 256 + 1 * (j 1).val = (j 1).val; rw [e]; omega
  | ⟨2, _⟩ => show win0_4.index t (2 : Fin 4) * 8 + 1 * (j 2).val = (j 2).val; rw [e]; omega
  | ⟨3, _⟩ => show win0_4.index t (3 : Fin 4) * 128 + 1 * (j 3).val = (j 3).val; rw [e]; omega

/-- Over the extended reals a conversion keeps the value: the call's output 4 is its input. -/
theorem out4_eq (x0 : FVec Ideal S6x256x24x128 .f32) (x1 x2 : FVec Ideal S6x256x8x128 .f32) : out0_4 (F := Ideal) x0 x1 x2 = x1 := by
  unfold out0_4
  rw [View.canon_unit_zero hz, View.ld_unit_zero hz]
  unfold k0_pay3
  funext j
  rw [eq_ix4 j]
  pointwise

/-- The call's output 4: the codes. -/
theorem arr4 (c : Dev nD) : (dats m 0 c).arrAt 4 cfg0.N = codesK code (m ((c : Thread nD τ).loc main_arg1)) :=
  ((dats m 0 c).arrAt_eq_of_cover 4 (V m c main_v82) (fun t _ => by
      show (dats m 0 c).after 4 t = _
      rw [after0_4, out4_eq, iblk1_eq]
      funext j
      show V m c main_v82 j = V m c main_v82 (((cfg0.win 4).blk t).view.emb j)
      rw [emb4]) ((by decide +kernel : (cfg0.win 4).Covers).cover _ (Memref.isWhole_whole _))).trans
    ((V_v82 m c).trans (clipK_eq _))

/-- Input window 2's block is its whole array. -/
theorem emb2 (t : Fin cfg0.N) (j : S6x256x8x128.Idx) : ((cfg0.win 2).blk t).view.emb j = j := by
  have e : ∀ a : Fin 4, win0_2.index t a = 0 := fun a => by fin_cases a <;> rfl
  funext a; apply Fin.ext
  match a with
  | ⟨0, _⟩ => show win0_2.index t (0 : Fin 4) * 6 + 1 * (j 0).val = (j 0).val; rw [e]; omega
  | ⟨1, _⟩ => show win0_2.index t (1 : Fin 4) * 256 + 1 * (j 1).val = (j 1).val; rw [e]; omega
  | ⟨2, _⟩ => show win0_2.index t (2 : Fin 4) * 8 + 1 * (j 2).val = (j 2).val; rw [e]; omega
  | ⟨3, _⟩ => show win0_2.index t (3 : Fin 4) * 128 + 1 * (j 3).val = (j 3).val; rw [e]; omega

/-- So the call reads the whole of `main_v89` there. -/
theorem iblk2_eq (c : Dev nD) (t : Fin cfg0.N) : iblk m c 2 t = V m c main_v89 := by
  funext j; show V m c main_v89 (((cfg0.win 2).blk t).view.emb j) = V m c main_v89 j; rw [emb2]

/-- Output window 5's block is its whole array. -/
theorem emb5 (t : Fin cfg0.N) (j : S6x256x8x128.Idx) : ((cfg0.win 5).blk t).view.emb j = j := by
  have e : ∀ a : Fin 4, win0_5.index t a = 0 := fun a => by fin_cases a <;> rfl
  funext a; apply Fin.ext
  match a with
  | ⟨0, _⟩ => show win0_5.index t (0 : Fin 4) * 6 + 1 * (j 0).val = (j 0).val; rw [e]; omega
  | ⟨1, _⟩ => show win0_5.index t (1 : Fin 4) * 256 + 1 * (j 1).val = (j 1).val; rw [e]; omega
  | ⟨2, _⟩ => show win0_5.index t (2 : Fin 4) * 8 + 1 * (j 2).val = (j 2).val; rw [e]; omega
  | ⟨3, _⟩ => show win0_5.index t (3 : Fin 4) * 128 + 1 * (j 3).val = (j 3).val; rw [e]; omega

/-- Over the extended reals a conversion keeps the value: the call's output 5 is its input. -/
theorem out5_eq (x0 : FVec Ideal S6x256x24x128 .f32) (x1 x2 : FVec Ideal S6x256x8x128 .f32) : out0_5 (F := Ideal) x0 x1 x2 = x2 := by
  unfold out0_5
  rw [View.canon_unit_zero hz, View.ld_unit_zero hz]
  unfold k0_pay5
  funext j
  rw [eq_ix4 j]
  pointwise

/-- The call's output 5: the codes. -/
theorem arr5 (c : Dev nD) : (dats m 0 c).arrAt 5 cfg0.N = codesK code (m ((c : Thread nD τ).loc main_arg2)) :=
  ((dats m 0 c).arrAt_eq_of_cover 5 (V m c main_v89) (fun t _ => by
      show (dats m 0 c).after 5 t = _
      rw [after0_5, out5_eq, iblk2_eq]
      funext j
      show V m c main_v89 j = V m c main_v89 (((cfg0.win 5).blk t).view.emb j)
      rw [emb5]) ((by decide +kernel : (cfg0.win 5).Covers).cover _ (Memref.isWhole_whole _))).trans
    ((V_v89 m c).trans (clipK_eq _))

/-- Output window 6's block is its whole array. -/
theorem emb6 (t : Fin cfg0.N) (j : S6x256x24x128.Idx) : ((cfg0.win 6).blk t).view.emb j = j := by
  have e : ∀ a : Fin 4, win0_6.index t a = 0 := fun a => by fin_cases a <;> rfl
  funext a; apply Fin.ext
  match a with
  | ⟨0, _⟩ => show win0_6.index t (0 : Fin 4) * 6 + 1 * (j 0).val = (j 0).val; rw [e]; omega
  | ⟨1, _⟩ => show win0_6.index t (1 : Fin 4) * 256 + 1 * (j 1).val = (j 1).val; rw [e]; omega
  | ⟨2, _⟩ => show win0_6.index t (2 : Fin 4) * 24 + 1 * (j 2).val = (j 2).val; rw [e]; omega
  | ⟨3, _⟩ => show win0_6.index t (3 : Fin 4) * 128 + 1 * (j 3).val = (j 3).val; rw [e]; omega

/-- Over the extended reals a conversion keeps the value: the call's output 6 is its input. -/
theorem out6_eq (x0 : FVec Ideal S6x256x24x128 .f32) (x1 x2 : FVec Ideal S6x256x8x128 .f32) : out0_6 (F := Ideal) x0 x1 x2 = x0 := by
  unfold out0_6
  rw [View.canon_unit_zero hz, View.ld_unit_zero hz]
  unfold k0_pay2 k0_pay1
  funext j
  rw [eq_ix4 j]
  pointwise

/-- The call's output 6: the codes. -/
theorem arr6 (c : Dev nD) : (dats m 0 c).arrAt 6 cfg0.N = codesQ code (m ((c : Thread nD τ).loc main_arg0)) :=
  ((dats m 0 c).arrAt_eq_of_cover 6 (V m c main_v75) (fun t _ => by
      show (dats m 0 c).after 6 t = _
      rw [after0_6, out6_eq, iblk0_eq]
      funext j
      show V m c main_v75 j = V m c main_v75 (((cfg0.win 6).blk t).view.emb j)
      rw [emb6]) ((by decide +kernel : (cfg0.win 6).Covers).cover _ (Memref.isWhole_whole _))).trans
    ((V_v75 m c).trans (clipQ_eq _))

/-- Output window 7's block is its whole array. -/
theorem emb7 (t : Fin cfg0.N) (j : S6x256x8x128.Idx) : ((cfg0.win 7).blk t).view.emb j = j := by
  have e : ∀ a : Fin 4, win0_7.index t a = 0 := fun a => by fin_cases a <;> rfl
  funext a; apply Fin.ext
  match a with
  | ⟨0, _⟩ => show win0_7.index t (0 : Fin 4) * 6 + 1 * (j 0).val = (j 0).val; rw [e]; omega
  | ⟨1, _⟩ => show win0_7.index t (1 : Fin 4) * 256 + 1 * (j 1).val = (j 1).val; rw [e]; omega
  | ⟨2, _⟩ => show win0_7.index t (2 : Fin 4) * 8 + 1 * (j 2).val = (j 2).val; rw [e]; omega
  | ⟨3, _⟩ => show win0_7.index t (3 : Fin 4) * 128 + 1 * (j 3).val = (j 3).val; rw [e]; omega

/-- Over the extended reals a conversion keeps the value: the call's output 7 is its input. -/
theorem out7_eq (x0 : FVec Ideal S6x256x24x128 .f32) (x1 x2 : FVec Ideal S6x256x8x128 .f32) : out0_7 (F := Ideal) x0 x1 x2 = x1 := by
  unfold out0_7
  rw [View.canon_unit_zero hz, View.ld_unit_zero hz]
  unfold k0_pay4 k0_pay3
  funext j
  rw [eq_ix4 j]
  pointwise

/-- The call's output 7: the codes. -/
theorem arr7 (c : Dev nD) : (dats m 0 c).arrAt 7 cfg0.N = codesK code (m ((c : Thread nD τ).loc main_arg1)) :=
  ((dats m 0 c).arrAt_eq_of_cover 7 (V m c main_v82) (fun t _ => by
      show (dats m 0 c).after 7 t = _
      rw [after0_7, out7_eq, iblk1_eq]
      funext j
      show V m c main_v82 j = V m c main_v82 (((cfg0.win 7).blk t).view.emb j)
      rw [emb7]) ((by decide +kernel : (cfg0.win 7).Covers).cover _ (Memref.isWhole_whole _))).trans
    ((V_v82 m c).trans (clipK_eq _))

/-- Output window 8's block is its whole array. -/
theorem emb8 (t : Fin cfg0.N) (j : S6x256x8x128.Idx) : ((cfg0.win 8).blk t).view.emb j = j := by
  have e : ∀ a : Fin 4, win0_8.index t a = 0 := fun a => by fin_cases a <;> rfl
  funext a; apply Fin.ext
  match a with
  | ⟨0, _⟩ => show win0_8.index t (0 : Fin 4) * 6 + 1 * (j 0).val = (j 0).val; rw [e]; omega
  | ⟨1, _⟩ => show win0_8.index t (1 : Fin 4) * 256 + 1 * (j 1).val = (j 1).val; rw [e]; omega
  | ⟨2, _⟩ => show win0_8.index t (2 : Fin 4) * 8 + 1 * (j 2).val = (j 2).val; rw [e]; omega
  | ⟨3, _⟩ => show win0_8.index t (3 : Fin 4) * 128 + 1 * (j 3).val = (j 3).val; rw [e]; omega

/-- Over the extended reals a conversion keeps the value: the call's output 8 is its input. -/
theorem out8_eq (x0 : FVec Ideal S6x256x24x128 .f32) (x1 x2 : FVec Ideal S6x256x8x128 .f32) : out0_8 (F := Ideal) x0 x1 x2 = x2 := by
  unfold out0_8
  rw [View.canon_unit_zero hz, View.ld_unit_zero hz]
  unfold k0_pay6 k0_pay5
  funext j
  rw [eq_ix4 j]
  pointwise

/-- The call's output 8: the codes. -/
theorem arr8 (c : Dev nD) : (dats m 0 c).arrAt 8 cfg0.N = codesK code (m ((c : Thread nD τ).loc main_arg2)) :=
  ((dats m 0 c).arrAt_eq_of_cover 8 (V m c main_v89) (fun t _ => by
      show (dats m 0 c).after 8 t = _
      rw [after0_8, out8_eq, iblk2_eq]
      funext j
      show V m c main_v89 j = V m c main_v89 (((cfg0.win 8).blk t).view.emb j)
      rw [emb8]) ((by decide +kernel : (cfg0.win 8).Covers).cover _ (Memref.isWhole_whole _))).trans
    ((V_v89 m c).trans (clipK_eq _))

end Cert.ReferenceIdeal.Row
-- ==== Proof.RefRun.lean ====
module

public import proofs.«01_k».proof.Proof.RefArrays

@[expose] public section

set_option maxRecDepth 16384

noncomputable section
namespace Cert.ReferenceIdeal.Row
open Cert.ReferenceIdeal Cert.ReferenceIdeal.Gen Idealize.ShloMosaic Cert.Quant Cert.Spec Idealize.ShloMosaic.TcCoe Idealize.SL.Sem Idealize.ShloMosaic.Tactic

variable (m : (ℓ : Loc nD τ sig) → Buf (Elt Ideal) ℓ)

/-- The state in which the lines after the call start. -/
abbrev mid (c : Dev nD) : Valuation τ sig (Elt Ideal) := Pipeline.withArrays (cfgs 0).spec c (V0 m c) fun w => (dats m 0 c).arrAt w (cfgs 0).N

/-- The call's arrays are distinct. -/
theorem arr_inj : Function.Injective (Pipeline.arrRef (cfgs 0).spec) := by decide

theorem mid_v90_3 (c : Dev nD) : mid m c (Proc.devRef .tc main_v90_3) = codesQ code (m ((c : Thread nD τ).loc main_arg0)) :=
  (Pipeline.withArrays_arr (cfgs 0).spec arr_inj c (V0 m c) (fun w => (dats m 0 c).arrAt w (cfgs 0).N) 6).trans (arr6 m c)

theorem mid_v90_4 (c : Dev nD) : mid m c (Proc.devRef .tc main_v90_4) = codesK code (m ((c : Thread nD τ).loc main_arg1)) :=
  (Pipeline.withArrays_arr (cfgs 0).spec arr_inj c (V0 m c) (fun w => (dats m 0 c).arrAt w (cfgs 0).N) 7).trans (arr7 m c)

theorem mid_v90_5 (c : Dev nD) : mid m c (Proc.devRef .tc main_v90_5) = codesK code (m ((c : Thread nD τ).loc main_arg2)) :=
  (Pipeline.withArrays_arr (cfgs 0).spec arr_inj c (V0 m c) (fun w => (dats m 0 c).arrAt w (cfgs 0).N) 8).trans (arr8 m c)

theorem mid_v22 (c : Dev nD) : mid m c (Proc.devRef .tc main_v22) = scalesQ scl (m ((c : Thread nD τ).loc main_arg0)) :=
  (Pipeline.withArrays_of_ne _ c (V0 m c) _ main_v22 (by exact (by decide : ∀ w, Pipeline.arrRef spec0 w ≠ main_v22))).trans
    ((V_v22 m c).trans (scaleQ_eq _))

/-- The lines after the call leave `main_v22` as it was. -/
theorem tail_v22 (c : Dev nD) : Pipeline.afterTail₀ cfgs (dats m) 0 (V0 m) [hostOps1, hostOps1_1, hostOps1_2] c main_v22
    = scalesQ scl (m ((c : Thread nD τ).loc main_arg0)) := by
  unfold Pipeline.afterTail₀
  refine Eq.trans ?_ (mid_v22 m c)
  show StableHlo.after _ (mid m c) _ = _
  generalize mid m c = U
  simp only [List.flatten_cons, List.flatten_nil, List.append_nil, List.cons_append, List.nil_append]
  after_reads_simp

theorem mid_v45 (c : Dev nD) : mid m c (Proc.devRef .tc main_v45) = scalesK scl (m ((c : Thread nD τ).loc main_arg1)) :=
  (Pipeline.withArrays_of_ne _ c (V0 m c) _ main_v45 (by exact (by decide : ∀ w, Pipeline.arrRef spec0 w ≠ main_v45))).trans
    ((V_v45 m c).trans (scaleK_eq _))

/-- The lines after the call leave `main_v45` as it was. -/
theorem tail_v45 (c : Dev nD) : Pipeline.afterTail₀ cfgs (dats m) 0 (V0 m) [hostOps1, hostOps1_1, hostOps1_2] c main_v45
    = scalesK scl (m ((c : Thread nD τ).loc main_arg1)) := by
  unfold Pipeline.afterTail₀
  refine Eq.trans ?_ (mid_v45 m c)
  show StableHlo.after _ (mid m c) _ = _
  generalize mid m c = U
  simp only [List.flatten_cons, List.flatten_nil, List.append_nil, List.cons_append, List.nil_append]
  after_reads_simp

theorem mid_v68 (c : Dev nD) : mid m c (Proc.devRef .tc main_v68) = scalesK scl (m ((c : Thread nD τ).loc main_arg2)) :=
  (Pipeline.withArrays_of_ne _ c (V0 m c) _ main_v68 (by exact (by decide : ∀ w, Pipeline.arrRef spec0 w ≠ main_v68))).trans
    ((V_v68 m c).trans (scaleK_eq _))

/-- The lines after the call leave `main_v68` as it was. -/
theorem tail_v68 (c : Dev nD) : Pipeline.afterTail₀ cfgs (dats m) 0 (V0 m) [hostOps1, hostOps1_1, hostOps1_2] c main_v68
    = scalesK scl (m ((c : Thread nD τ).loc main_arg2)) := by
  unfold Pipeline.afterTail₀
  refine Eq.trans ?_ (mid_v68 m c)
  show StableHlo.after _ (mid m c) _ = _
  generalize mid m c = U
  simp only [List.flatten_cons, List.flatten_nil, List.append_nil, List.cons_append, List.nil_append]
  after_reads_simp

/-- The lines after the call, from what they read. -/
theorem after_v129 (U : Valuation τ sig (Elt Ideal)) :
    StableHlo.after (List.flatten [hostOps1, hostOps1_1, hostOps1_2]) U (Proc.devRef .tc main_v129)
      = mixed (weights (scores (U (Proc.devRef .tc main_v90_3)) (U (Proc.devRef .tc main_v90_4)) (U (Proc.devRef .tc main_v22)) (U (Proc.devRef .tc main_v45))))
          (U (Proc.devRef .tc main_v90_5)) (U (Proc.devRef .tc main_v68)) := by
  simp only [List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq, id]
  unfold mixed weights tops scores
  rfl

/-- The reference's last result: the attention output. -/
theorem tail_v129 (c : Dev nD) : Pipeline.afterTail₀ cfgs (dats m) 0 (V0 m) [hostOps1, hostOps1_1, hostOps1_2] c main_v129
    = localAttn code scl (m ((c : Thread nD τ).loc main_arg0)) (m ((c : Thread nD τ).loc main_arg1)) (m ((c : Thread nD τ).loc main_arg2)) := by
  unfold Pipeline.afterTail₀
  refine (after_v129 (mid m c)).trans ?_
  rw [mid_v90_3, mid_v90_4, mid_v90_5, mid_v22, mid_v45, mid_v68, ← local_eq, clipQ_eq, clipK_eq, clipK_eq, scaleQ_eq, scaleK_eq, scaleK_eq]

variable (ρ : Dev nD → PrngReg)

/-- What a run of the reference leaves in its seven results. -/
theorem run : θ_run defs (onTc (τ := τ) (main (F := Ideal))) ⟨m, fun _ => 0, ρ⟩ fun r => ∀ c : Dev nD,
    r.2.mem ((c : Thread nD τ).loc main_v90_0) = codesQ code (m ((c : Thread nD τ).loc main_arg0))
    ∧ r.2.mem ((c : Thread nD τ).loc main_v22) = scalesQ scl (m ((c : Thread nD τ).loc main_arg0))
    ∧ r.2.mem ((c : Thread nD τ).loc main_v90_1) = codesK code (m ((c : Thread nD τ).loc main_arg1))
    ∧ r.2.mem ((c : Thread nD τ).loc main_v45) = scalesK scl (m ((c : Thread nD τ).loc main_arg1))
    ∧ r.2.mem ((c : Thread nD τ).loc main_v90_2) = codesK code (m ((c : Thread nD τ).loc main_arg2))
    ∧ r.2.mem ((c : Thread nD τ).loc main_v68) = scalesK scl (m ((c : Thread nD τ).loc main_arg2))
    ∧ r.2.mem ((c : Thread nD τ).loc main_v129) = localAttn code scl (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨((h c).1 3).trans (arr3 m c),
      ((h c).2 main_v22 (Pipeline.mem_restRefs_of main_v22 (by decide) (by decide))).trans (tail_v22 m c),
      ((h c).1 4).trans (arr4 m c),
      ((h c).2 main_v45 (Pipeline.mem_restRefs_of main_v45 (by decide) (by decide))).trans (tail_v45 m c),
      ((h c).1 5).trans (arr5 m c),
      ((h c).2 main_v68 (Pipeline.mem_restRefs_of main_v68 (by decide) (by decide))).trans (tail_v68 m c),
      ((h c).2 main_v129 (Pipeline.mem_restRefs_of main_v129 (by decide) (by decide))).trans (tail_v129 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.ReferenceIdeal.Row
-- ==== Proof.Pre.lean ====
module

public import proofs.«01_k».proof.Proof.Gen.Pre_finite_inputs
public import proofs.«01_k».proof.Proof.Spec
public import Idealize.ShloMosaic.Lib.ReduceAll
public import Idealize.ShloMosaic.Lib.Pointwise
public import Idealize.ShloMosaic.Lib.IdealHost

@[expose] public section

set_option maxRecDepth 16384

noncomputable section
namespace Cert.Pre_finite_inputs.Row
open Cert.Pre_finite_inputs Cert.Pre_finite_inputs.Gen Idealize.ShloMosaic Cert.Quant Cert.Spec Idealize.ShloMosaic.Tactic

instance : Subsingleton S_.Idx := ⟨fun a b => funext fun i => i.elim0⟩

/-- A comparison of magnitudes that came out 1, over the query array. -/
theorem tameQ (x : FVec Ideal S6x256x24x128 .bf16)
    (h : ∀ j, cmpf .ole (Host.absf (extf .f32 x bitsLt_bf16_f32)) (broadcastInDim S6x256x24x128 ![] bcast_S_S6x256x24x128 (constant (F := Ideal) S_ .f32 0x7F7F0000#32)) j = 1#1) :
    TameQ x := fun j => by
  by_contra hn
  have e : cmpf .ole (Host.absf (extf .f32 x bitsLt_bf16_f32)) (broadcastInDim S6x256x24x128 ![] bcast_S_S6x256x24x128 (constant (F := Ideal) S_ .f32 0x7F7F0000#32)) j
      = BitVec.ofBool (decide (max (x j) (-(x j)) ≤ Ideal.ofBits .f32 0x7F7F0000#32)) := by
    rw [eq_ix4 j]
    pointwise
    rfl
  have := h j
  rw [e, decide_eq_false hn] at this
  exact absurd this (by decide)

/-- A comparison of magnitudes that came out 1, over the key (or value) array. -/
theorem tameK (x : FVec Ideal S6x256x8x128 .bf16)
    (h : ∀ j, cmpf .ole (Host.absf (extf .f32 x bitsLt_bf16_f32)) (broadcastInDim S6x256x8x128 ![] bcast_S_S6x256x8x128 (constant (F := Ideal) S_ .f32 0x7F7F0000#32)) j = 1#1) :
    TameK x := fun j => by
  by_contra hn
  have e : cmpf .ole (Host.absf (extf .f32 x bitsLt_bf16_f32)) (broadcastInDim S6x256x8x128 ![] bcast_S_S6x256x8x128 (constant (F := Ideal) S_ .f32 0x7F7F0000#32)) j
      = BitVec.ofBool (decide (max (x j) (-(x j)) ≤ Ideal.ofBits .f32 0x7F7F0000#32)) := by
    rw [eq_ix4 j]
    pointwise
    rfl
  have := h j
  rw [e, decide_eq_false hn] at this
  exact absurd this (by decide)

/-- The precondition says that every element of the three arrays is at most the largest finite bfloat16 in size. -/
theorem tame (q : FVec Ideal S6x256x24x128 .bf16) (k v : FVec Ideal S6x256x8x128 .bf16) (i : IVec S6x256x24x32 32)
    (h : fn (F := Ideal) q k v i = fun _ => 1#1) : TameQ q ∧ TameK k ∧ TameK v := by
  have h0 := congrFun h (fun a => a.elim0)
  dsimp only [fn] at h0
  have h1 := IntOp.andi_eq_one.1 (show IntOp.andi (IntOp.andi _ _) _ = 1#1 from h0)
  have h2 := IntOp.andi_eq_one.1 h1.1
  exact ⟨tameQ q fun j => Host.reduce_andi_all _ _ _ _ _ h2.1 j, tameK k fun j => Host.reduce_andi_all _ _ _ _ _ h2.2 j,
    tameK v fun j => Host.reduce_andi_all _ _ _ _ _ h1.2 j⟩

end Cert.Pre_finite_inputs.Row
-- ==== Proof.Algebraic.lean ====
module

public import proofs.«01_k».proof.Defs
public import proofs.«01_k».proof.Proof.Arrays
public import proofs.«01_k».proof.Proof.RefRun
public import proofs.«01_k».proof.Proof.Pre

@[expose] public section

set_option maxRecDepth 16384

noncomputable section
namespace Cert.Proof
open Idealize.ShloMosaic Idealize.ShloMosaic.TcCoe Idealize.SL.Sem Cert.Quant Cert.Spec

/-- Over the extended reals, of arguments within the precondition, the kernel's seven results are the reference's: the codes
    and the scales of the queries, keys and values, and the causal attention over the codes. -/
theorem algebraic : algebraic_KernelIdeal_ReferenceIdeal_pre_finite_inputs := by
  intro m g m' g' hpre hargs
  have hp := fun c => Cert.Pre_finite_inputs.Row.tame _ _ _ _ (hpre c)
  refine ⟨fun c => codesQ code (m ((c.tc : Thread Cert.KernelIdeal.nD Cert.KernelIdeal.τ).loc Cert.KernelIdeal.main_arg0)), fun c => scalesQ scl (m ((c.tc : Thread Cert.KernelIdeal.nD Cert.KernelIdeal.τ).loc Cert.KernelIdeal.main_arg0)), fun c => codesK code (m ((c.tc : Thread Cert.KernelIdeal.nD Cert.KernelIdeal.τ).loc Cert.KernelIdeal.main_arg1)), fun c => scalesK scl (m ((c.tc : Thread Cert.KernelIdeal.nD Cert.KernelIdeal.τ).loc Cert.KernelIdeal.main_arg1)),
    fun c => codesK code (m ((c.tc : Thread Cert.KernelIdeal.nD Cert.KernelIdeal.τ).loc Cert.KernelIdeal.main_arg2)), fun c => scalesK scl (m ((c.tc : Thread Cert.KernelIdeal.nD Cert.KernelIdeal.τ).loc Cert.KernelIdeal.main_arg2)), fun c => localAttn code scl (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    (θ_run _ _ _).mono (fun r h c => ?_) (Cert.KernelIdeal.Value.run_blocks m g),
    (θ_run _ _ _).mono (fun r h c => ?_) (Cert.ReferenceIdeal.Row.run m' g')⟩

  · obtain ⟨h4, h5, h6, h7, h8, h9, h10, -, -, -, a0, a1, a2, a3⟩ := h c
    exact ⟨h4.trans ((Cert.KernelIdeal.Row.final4 m c).trans (codesQ_eq (hp c).1)),
      h5.trans ((Cert.KernelIdeal.Row.final5 m c).trans (scalesQ_eq (hp c).1)),
      h6.trans ((Cert.KernelIdeal.Row.final6 m c).trans (codesK_eq (hp c).2.1)),
      h7.trans ((Cert.KernelIdeal.Row.final7 m c).trans (scalesK_eq (hp c).2.1)),
      h8.trans ((Cert.KernelIdeal.Row.final8 m c).trans (codesK_eq (hp c).2.2)),
      h9.trans ((Cert.KernelIdeal.Row.final9 m c).trans (scalesK_eq (hp c).2.2)),
      h10.trans ((Cert.KernelIdeal.Row.final10 m c).trans (localAttn_eq (hp c).1 (hp c).2.1 (hp c).2.2)), a0, a1, a2, a3⟩
  · obtain ⟨e0, e1, e2, -⟩ := hargs c
    obtain ⟨h0, h1, h2, h3, h4, h5, h6, rest⟩ := h c
    rw [e0] at h0 h1 h6
    rw [e1] at h2 h3 h6
    rw [e2] at h4 h5 h6
    exact ⟨h0, h1, h2, h3, h4, h5, h6, rest⟩

end Cert.Proof
-- ==== Proof.MixBlock.lean ====
/- The gate's mix: what one grid point's body leaves in its output block, from its input blocks. -/
module

public import proofs.«01_k».proof.Proof.Gen.MixIdeal.Value
public import Idealize.ShloMosaic.Lib.Pointwise
public import Idealize.ShloMosaic.Lib.IdealHost

@[expose] public section

set_option maxRecDepth 16384

noncomputable section
namespace Cert.MixIdeal.Row
open Cert.MixIdeal Cert.MixIdeal.Gen Idealize.ShloMosaic Idealize.ShloMosaic.TcCoe Idealize.SL.Sem Idealize.ShloMosaic.Tactic

/-- A gate's blend of two values: `sigmoid(w) a + (1 - sigmoid(w)) b`. -/
def blend (w a b : EReal) : EReal := Ideal.logistic w * a + (1 - Ideal.logistic w) * b

/-- One head's operations at an element are the blend. -/
theorem head_apply (w : Vec Ideal S1x128 .f32) (a b : Vec Ideal S1x1x256x128 .f32) (z : Fin 1) (s : Fin 256) (d : Fin 128) :
    k0_pay2 w a b (ix3 z s d) = blend (w (ix2 0 d)) (a (ix4 0 0 s d)) (b (ix4 0 0 s d)) := by
  pointwise [k0_pay2]
  rfl

/-- The head and the feature of a column of the output. -/
def headOf (n : Fin 3072) : Fin 24 := ⟨n.val / 128, by omega⟩
/-- The feature of a column of the output. -/
def featOf (n : Fin 3072) : Fin 128 := ⟨n.val % 128, by omega⟩

/-- The output block: each column of the output is a head's feature. -/
def MIX (x0 x1 : Vec Ideal S1x24x256x128 .f32) (x2 : Vec Ideal S24x128 .f32) : S1x256x3072.Idx → EReal := fun y =>
  blend (x2 (ix2 (headOf (y 2)) (featOf (y 2)))) (x0 (ix4 0 (headOf (y 2)) (y 1) (featOf (y 2)))) (x1 (ix4 0 (headOf (y 2)) (y 1) (featOf (y 2))))

/-- A head's stored piece is the output block where it lies. -/
theorem piece (x0 x1 : Vec Ideal S1x24x256x128 .f32) (x2 : Vec Ideal S24x128 .f32) (h : ℕ) (hh : h < 24) (n : ℕ) (hn : n = 128 * h)
    (i2 : ∀ a, (![h, 0] : Fin 2 → ℕ) a + S1x128.size a ≤ S24x128.size a)
    (i0 : ∀ a, (![0, h, 0, 0] : Fin 4 → ℕ) a + S1x1x256x128.size a ≤ S1x24x256x128.size a)
    (i3 : ∀ a, (![0, 0, n] : Fin 3 → ℕ) a + S1x256x128.size a ≤ S1x256x3072.size a)
    (z : (Rect.unit (s := S1x256x3072) ![0, 0, n] S1x256x128.size i3).shape.Idx) :
    k0_pay2 (View.ld x2 (Rect.unit (s := S24x128) ![h, 0] S1x128.size i2)) (View.ld x0 (Rect.unit (s := S1x24x256x128) ![0, h, 0, 0] S1x1x256x128.size i0))
        (View.ld x1 (Rect.unit (s := S1x24x256x128) ![0, h, 0, 0] S1x1x256x128.size i0)) z
      = MIX x0 x1 x2 ((Rect.unit (s := S1x256x3072) ![0, 0, n] S1x256x128.size i3).emb z) := by
  obtain ⟨a, s, d, rfl⟩ : ∃ (a : Fin 1) (s : Fin 256) (d : Fin 128), z = ix3 a s d :=
    ⟨z 0, z 1, z 2, by funext a; match a with | 0 => rfl | 1 => rfl | 2 => rfl⟩
  refine (head_apply _ _ _ a s d).trans ?_
  have e1 : ((Rect.unit (s := S1x256x3072) ![0, 0, n] S1x256x128.size i3).emb (ix3 a s d)) 1 = s := Fin.ext ((Nat.zero_add _).trans (Nat.one_mul _))
  have e2 : (((Rect.unit (s := S1x256x3072) ![0, 0, n] S1x256x128.size i3).emb (ix3 a s d)) 2).val = n + d.val := congrArg (n + ·) (Nat.one_mul _)
  have eh : headOf (((Rect.unit (s := S1x256x3072) ![0, 0, n] S1x256x128.size i3).emb (ix3 a s d)) 2) = ⟨h, hh⟩ :=
    Fin.ext (by show (((Rect.unit (s := S1x256x3072) ![0, 0, n] S1x256x128.size i3).emb (ix3 a s d)) 2).val / 128 = h; rw [e2]; omega)
  have ed : featOf (((Rect.unit (s := S1x256x3072) ![0, 0, n] S1x256x128.size i3).emb (ix3 a s d)) 2) = d :=
    Fin.ext (by show (((Rect.unit (s := S1x256x3072) ![0, 0, n] S1x256x128.size i3).emb (ix3 a s d)) 2).val % 128 = d.val; rw [e2]; omega)
  unfold MIX
  rw [e1, eh, ed]
  have l2 : (Rect.unit (s := S24x128) ![h, 0] S1x128.size i2).emb (ix2 0 d) = ix2 ⟨h, hh⟩ d := by
    funext k; apply Fin.ext
    match k with
    | ⟨0, _⟩ => show h + 1 * 0 = h; omega
    | ⟨1, _⟩ => show 0 + 1 * d.val = d.val; omega
  have l0 : (Rect.unit (s := S1x24x256x128) ![0, h, 0, 0] S1x1x256x128.size i0).emb (ix4 0 0 s d) = ix4 0 ⟨h, hh⟩ s d := by
    funext k; apply Fin.ext
    match k with
    | ⟨0, _⟩ => show 0 + 1 * 0 = 0; omega
    | ⟨1, _⟩ => show h + 1 * 0 = h; omega
    | ⟨2, _⟩ => show 0 + 1 * s.val = s.val; omega
    | ⟨3, _⟩ => show 0 + 1 * d.val = d.val; omega
  show blend (x2 ((Rect.unit (s := S24x128) ![h, 0] S1x128.size i2).emb (ix2 0 d))) (x0 ((Rect.unit (s := S1x24x256x128) ![0, h, 0, 0] S1x1x256x128.size i0).emb (ix4 0 0 s d)))
    (x1 ((Rect.unit (s := S1x24x256x128) ![0, h, 0, 0] S1x1x256x128.size i0).emb (ix4 0 0 s d))) = _
  rw [l2, l0]

/-- The block that the body leaves: the 24 heads' pieces are the output block. -/
theorem out_eq (x0 x1 : Vec Ideal S1x24x256x128 .f32) (x2 : Vec Ideal S24x128 .f32) : out0_3 x0 x1 x2 = MIX x0 x1 x2 := by
  funext y
  unfold out0_3
  refine View.canon_apply_of_pieces _ _ ?_ y (cover0_3 _ _ _ _ _ _ _ _ _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact piece x0 x1 x2 23 (by decide) 2944 rfl inb_S24x128_S1x128_23_0 inb_S1x24x256x128_S1x1x256x128_0_23_0_0 inb_S1x256x3072_S1x256x128_0_0_2944 z
  · exact piece x0 x1 x2 22 (by decide) 2816 rfl inb_S24x128_S1x128_22_0 inb_S1x24x256x128_S1x1x256x128_0_22_0_0 inb_S1x256x3072_S1x256x128_0_0_2816 z
  · exact piece x0 x1 x2 21 (by decide) 2688 rfl inb_S24x128_S1x128_21_0 inb_S1x24x256x128_S1x1x256x128_0_21_0_0 inb_S1x256x3072_S1x256x128_0_0_2688 z
  · exact piece x0 x1 x2 20 (by decide) 2560 rfl inb_S24x128_S1x128_20_0 inb_S1x24x256x128_S1x1x256x128_0_20_0_0 inb_S1x256x3072_S1x256x128_0_0_2560 z
  · exact piece x0 x1 x2 19 (by decide) 2432 rfl inb_S24x128_S1x128_19_0 inb_S1x24x256x128_S1x1x256x128_0_19_0_0 inb_S1x256x3072_S1x256x128_0_0_2432 z
  · exact piece x0 x1 x2 18 (by decide) 2304 rfl inb_S24x128_S1x128_18_0 inb_S1x24x256x128_S1x1x256x128_0_18_0_0 inb_S1x256x3072_S1x256x128_0_0_2304 z
  · exact piece x0 x1 x2 17 (by decide) 2176 rfl inb_S24x128_S1x128_17_0 inb_S1x24x256x128_S1x1x256x128_0_17_0_0 inb_S1x256x3072_S1x256x128_0_0_2176 z
  · exact piece x0 x1 x2 16 (by decide) 2048 rfl inb_S24x128_S1x128_16_0 inb_S1x24x256x128_S1x1x256x128_0_16_0_0 inb_S1x256x3072_S1x256x128_0_0_2048 z
  · exact piece x0 x1 x2 15 (by decide) 1920 rfl inb_S24x128_S1x128_15_0 inb_S1x24x256x128_S1x1x256x128_0_15_0_0 inb_S1x256x3072_S1x256x128_0_0_1920 z
  · exact piece x0 x1 x2 14 (by decide) 1792 rfl inb_S24x128_S1x128_14_0 inb_S1x24x256x128_S1x1x256x128_0_14_0_0 inb_S1x256x3072_S1x256x128_0_0_1792 z
  · exact piece x0 x1 x2 13 (by decide) 1664 rfl inb_S24x128_S1x128_13_0 inb_S1x24x256x128_S1x1x256x128_0_13_0_0 inb_S1x256x3072_S1x256x128_0_0_1664 z
  · exact piece x0 x1 x2 12 (by decide) 1536 rfl inb_S24x128_S1x128_12_0 inb_S1x24x256x128_S1x1x256x128_0_12_0_0 inb_S1x256x3072_S1x256x128_0_0_1536 z
  · exact piece x0 x1 x2 11 (by decide) 1408 rfl inb_S24x128_S1x128_11_0 inb_S1x24x256x128_S1x1x256x128_0_11_0_0 inb_S1x256x3072_S1x256x128_0_0_1408 z
  · exact piece x0 x1 x2 10 (by decide) 1280 rfl inb_S24x128_S1x128_10_0 inb_S1x24x256x128_S1x1x256x128_0_10_0_0 inb_S1x256x3072_S1x256x128_0_0_1280 z
  · exact piece x0 x1 x2 9 (by decide) 1152 rfl inb_S24x128_S1x128_9_0 inb_S1x24x256x128_S1x1x256x128_0_9_0_0 inb_S1x256x3072_S1x256x128_0_0_1152 z
  · exact piece x0 x1 x2 8 (by decide) 1024 rfl inb_S24x128_S1x128_8_0 inb_S1x24x256x128_S1x1x256x128_0_8_0_0 inb_S1x256x3072_S1x256x128_0_0_1024 z
  · exact piece x0 x1 x2 7 (by decide) 896 rfl inb_S24x128_S1x128_7_0 inb_S1x24x256x128_S1x1x256x128_0_7_0_0 inb_S1x256x3072_S1x256x128_0_0_896 z
  · exact piece x0 x1 x2 6 (by decide) 768 rfl inb_S24x128_S1x128_6_0 inb_S1x24x256x128_S1x1x256x128_0_6_0_0 inb_S1x256x3072_S1x256x128_0_0_768 z
  · exact piece x0 x1 x2 5 (by decide) 640 rfl inb_S24x128_S1x128_5_0 inb_S1x24x256x128_S1x1x256x128_0_5_0_0 inb_S1x256x3072_S1x256x128_0_0_640 z
  · exact piece x0 x1 x2 4 (by decide) 512 rfl inb_S24x128_S1x128_4_0 inb_S1x24x256x128_S1x1x256x128_0_4_0_0 inb_S1x256x3072_S1x256x128_0_0_512 z
  · exact piece x0 x1 x2 3 (by decide) 384 rfl inb_S24x128_S1x128_3_0 inb_S1x24x256x128_S1x1x256x128_0_3_0_0 inb_S1x256x3072_S1x256x128_0_0_384 z
  · exact piece x0 x1 x2 2 (by decide) 256 rfl inb_S24x128_S1x128_2_0 inb_S1x24x256x128_S1x1x256x128_0_2_0_0 inb_S1x256x3072_S1x256x128_0_0_256 z
  · exact piece x0 x1 x2 1 (by decide) 128 rfl inb_S24x128_S1x128_1_0 inb_S1x24x256x128_S1x1x256x128_0_1_0_0 inb_S1x256x3072_S1x256x128_0_0_128 z
  · exact piece x0 x1 x2 0 (by decide) 0 rfl inb_S24x128_S1x128_0_0 inb_S1x24x256x128_S1x1x256x128_0_0_0_0 inb_S1x256x3072_S1x256x128_0_0_0 z
end Cert.MixIdeal.Row
-- ==== Proof.MixArrays.lean ====
/- The gate's mix: the output array after the whole run, as a function of the argument arrays. -/
module

public import proofs.«01_k».proof.Proof.MixBlock
public import Idealize.ShloMosaic.Lib.Pipeline.ValueKit.Geometry
public import Idealize.ShloMosaic.Lib.StableHlo.Run

@[expose] public section

set_option maxRecDepth 16384

noncomputable section
namespace Cert.MixIdeal.Row
open Cert.MixIdeal Cert.MixIdeal.Gen Cert.MixIdeal.Value Idealize.ShloMosaic Idealize.ShloMosaic.TcCoe Idealize.SL.Sem Idealize.ShloMosaic.Tactic

/-- The output array: at each batch and token, head by head, the head's gate blends the two attentions' features. -/
def mixed (mem loc : S6x24x256x128.Idx → EReal) (gate : S24.Idx → EReal) : S6x256x3072.Idx → EReal := fun j =>
  blend (gate (ix1 (headOf (j 2)))) (mem (ix4 (j 0) (headOf (j 2)) (j 1) (featOf (j 2)))) (loc (ix4 (j 0) (headOf (j 2)) (j 1) (featOf (j 2))))

/-- Blends of equal gates and values are equal. -/
theorem blend_congr {w w' a a' b b' : EReal} (hw : w = w') (ha : a = a') (hb : b = b') : blend w a b = blend w' a' b' := by
  rw [hw, ha, hb]

variable (m : (ℓ : Loc nD τ sig) → Buf (Elt Ideal) ℓ)

/-- The batch of a grid point. -/
def batch (t : Fin cfg0.N) : Fin 6 := t

/-- Window 0's block index at a grid point: the batch, then zeros. -/
theorem index0 : ∀ t : Fin cfg0.N, win0_0.index t = ![t.val, 0, 0, 0] := (by decide +kernel : ∀ t : Fin grid0.N, _)

/-- Window 1's block index at a grid point: the batch, then zeros. -/
theorem index1 : ∀ t : Fin cfg0.N, win0_1.index t = ![t.val, 0, 0, 0] := (by decide +kernel : ∀ t : Fin grid0.N, _)

/-- Window 2's block index at a grid point: zeros. -/
theorem index2 : ∀ t : Fin cfg0.N, win0_2.index t = ![0, 0] := (by decide +kernel : ∀ t : Fin grid0.N, _)

/-- Window 3's block index at a grid point: the batch, then zeros. -/
theorem index3 : ∀ t : Fin cfg0.N, win0_3.index t = ![t.val, 0, 0] := (by decide +kernel : ∀ t : Fin grid0.N, _)

/-- The gate's array as the call finds it: each head's gate in all columns. -/
theorem V_gate (c : Dev nD) (h : Fin 24) (d : Fin 128) : V m c main_v1 (ix2 h d) = m ((c : Thread nD τ).loc main_arg2) (ix1 h) := by
  have e : V m c main_v1 = broadcastInDim S24x128 ![0, 1] bcast_S24x1_S24x128_0_1 (broadcastInDim S24x1 ![0] bcast_S24_S24x1_0 (m ((c : Thread nD τ).loc main_arg2))) := by
    unfold V hostOps0
    after_results
  refine (congrFun e (ix2 h d)).trans ?_
  pointwise

/-- The block of the memory attention at a grid point is its batch. -/
theorem block0 (c : Dev nD) (t : Fin cfg0.N) (h : Fin 24) (s : Fin 256) (d : Fin 128) :
    iblk m c 0 t (ix4 0 h s d) = m ((c : Thread nD τ).loc main_arg0) (ix4 (batch t) h s d) := by
  show V m c main_arg0 (((cfg0.win 0).blk t).view.emb (ix4 0 h s d)) = _
  rw [V_main_arg0]
  refine congrArg (m ((c : Thread nD τ).loc main_arg0)) ?_
  have e := index0 t
  funext a; apply Fin.ext
  match a with
  | ⟨0, _⟩ => show win0_0.index t (0 : Fin 4) * 1 + 1 * 0 = t.val; rw [e]; show t.val * 1 + 1 * 0 = t.val; omega
  | ⟨1, _⟩ => show win0_0.index t (1 : Fin 4) * 24 + 1 * h.val = h.val; rw [e]; show 0 * 24 + 1 * h.val = h.val; omega
  | ⟨2, _⟩ => show win0_0.index t (2 : Fin 4) * 256 + 1 * s.val = s.val; rw [e]; show 0 * 256 + 1 * s.val = s.val; omega
  | ⟨3, _⟩ => show win0_0.index t (3 : Fin 4) * 128 + 1 * d.val = d.val; rw [e]; show 0 * 128 + 1 * d.val = d.val; omega

/-- The block of the local attention at a grid point is its batch. -/
theorem block1 (c : Dev nD) (t : Fin cfg0.N) (h : Fin 24) (s : Fin 256) (d : Fin 128) :
    iblk m c 1 t (ix4 0 h s d) = m ((c : Thread nD τ).loc main_arg1) (ix4 (batch t) h s d) := by
  show V m c main_arg1 (((cfg0.win 1).blk t).view.emb (ix4 0 h s d)) = _
  rw [V_main_arg1]
  refine congrArg (m ((c : Thread nD τ).loc main_arg1)) ?_
  have e := index1 t
  funext a; apply Fin.ext
  match a with
  | ⟨0, _⟩ => show win0_1.index t (0 : Fin 4) * 1 + 1 * 0 = t.val; rw [e]; show t.val * 1 + 1 * 0 = t.val; omega
  | ⟨1, _⟩ => show win0_1.index t (1 : Fin 4) * 24 + 1 * h.val = h.val; rw [e]; show 0 * 24 + 1 * h.val = h.val; omega
  | ⟨2, _⟩ => show win0_1.index t (2 : Fin 4) * 256 + 1 * s.val = s.val; rw [e]; show 0 * 256 + 1 * s.val = s.val; omega
  | ⟨3, _⟩ => show win0_1.index t (3 : Fin 4) * 128 + 1 * d.val = d.val; rw [e]; show 0 * 128 + 1 * d.val = d.val; omega

/-- The block of the gate at a grid point holds each head's gate in all columns. -/
theorem block2 (c : Dev nD) (t : Fin cfg0.N) (h : Fin 24) (d : Fin 128) :
    iblk m c 2 t (ix2 h d) = m ((c : Thread nD τ).loc main_arg2) (ix1 h) := by
  refine Eq.trans ?_ (V_gate m c h d)
  show V m c main_v1 (((cfg0.win 2).blk t).view.emb (ix2 h d)) = _
  refine congrArg (V m c main_v1) ?_
  have e := index2 t
  funext a; apply Fin.ext
  match a with
  | ⟨0, _⟩ => show win0_2.index t (0 : Fin 2) * 24 + 1 * h.val = h.val; rw [e]; show 0 * 24 + 1 * h.val = h.val; omega
  | ⟨1, _⟩ => show win0_2.index t (1 : Fin 2) * 128 + 1 * d.val = d.val; rw [e]; show 0 * 128 + 1 * d.val = d.val; omega

/-- Where a grid point's block of the output lies in the array. -/
theorem emb3 (t : Fin cfg0.N) (y : S1x256x3072.Idx) : ((cfg0.win 3).blk t).view.emb y = (ix3 (batch t) (y 1) (y 2) : S6x256x3072.Idx) := by
  have e := index3 t
  funext a; apply Fin.ext
  match a with
  | ⟨0, _⟩ => show win0_3.index t (0 : Fin 3) * 1 + 1 * (y 0).val = t.val; rw [e]; show t.val * 1 + 1 * (y 0).val = t.val; have := (y 0).isLt; change (y 0).val < 1 at this; omega
  | ⟨1, _⟩ => show win0_3.index t (1 : Fin 3) * 256 + 1 * (y 1).val = (y 1).val; rw [e]; show 0 * 256 + 1 * (y 1).val = (y 1).val; omega
  | ⟨2, _⟩ => show win0_3.index t (2 : Fin 3) * 3072 + 1 * (y 2).val = (y 2).val; rw [e]; show 0 * 3072 + 1 * (y 2).val = (y 2).val; omega

/-- What a grid point's block of the output holds, from the argument arrays. -/
theorem blk3 (c : Dev nD) (t : Fin cfg0.N) (y : S1x256x3072.Idx) :
    MIX (iblk m c 0 t) (iblk m c 1 t) (iblk m c 2 t) y
      = mixed (m ((c : Thread nD τ).loc main_arg0)) (m ((c : Thread nD τ).loc main_arg1)) (m ((c : Thread nD τ).loc main_arg2)) (ix3 (batch t) (y 1) (y 2)) :=
  blend_congr (block2 m c t (headOf (y 2)) (featOf (y 2))) (block0 m c t (headOf (y 2)) (y 1) (featOf (y 2))) (block1 m c t (headOf (y 2)) (y 1) (featOf (y 2)))

/-- The output array after the run. -/
theorem final3 (c : Dev nD) : (dats m 0 c).arrAt 3 cfg0.N
    = mixed (m ((c : Thread nD τ).loc main_arg0)) (m ((c : Thread nD τ).loc main_arg1)) (m ((c : Thread nD τ).loc main_arg2)) :=
  (dats m 0 c).arrAt_eq_of_cover 3 (mixed (m ((c : Thread nD τ).loc main_arg0)) (m ((c : Thread nD τ).loc main_arg1)) (m ((c : Thread nD τ).loc main_arg2)))
    (fun t _ => by
      rw [flushed3, out_eq]
      funext y
      exact (blk3 m c t y).trans (congrArg (mixed (m ((c : Thread nD τ).loc main_arg0)) (m ((c : Thread nD τ).loc main_arg1)) (m ((c : Thread nD τ).loc main_arg2))) (emb3 t y).symm))
    ((by decide +kernel : (cfg0.win 3).Covers).cover _ (Memref.isWhole_whole _))

end Cert.MixIdeal.Row
-- ==== Proof.MixAlgebraic.lean ====
/- The gate's mix: what its reference computes, and the claim that both compute the same. -/
module

public import proofs.«01_k».proof.Defs
public import proofs.«01_k».proof.Proof.MixArrays
public import proofs.«01_k».proof.Proof.Gen.MixReferenceIdeal.Run
public import Idealize.ShloMosaic.Lib.Quiescent

@[expose] public section

set_option maxRecDepth 16384

noncomputable section
namespace Cert.MixReferenceIdeal.Row
open Cert.MixReferenceIdeal Cert.MixReferenceIdeal.Gen Idealize.ShloMosaic Idealize.ShloMosaic.TcCoe Idealize.SL.Sem Idealize.ShloMosaic.Tactic

/-- The reference's array, as its host lines compute it. -/
def tower (mem loc : FVec Ideal S6x24x256x128 .f32) (gate : FVec Ideal S24 .f32) : FVec Ideal S6x256x3072 .bf16 :=
  shapeCast S6x256x3072 (truncf .bf16 (addf (mulf (broadcastInDim S6x256x24x128 ![0, 1, 2, 3] bcast_S1x1x24x1_S6x256x24x128_0_1_2_3 (broadcastInDim S1x1x24x1 ![2, 3] bcast_S24x1_S1x1x24x1_2_3 (broadcastInDim S24x1 ![0] bcast_S24_S24x1_0 (Host.divf (broadcastInDim S24 ![] bcast_S_S24 (constant S_ .f32 0x3F800000#32)) (addf (broadcastInDim S24 ![] bcast_S_S24 (constant S_ .f32 0x3F800000#32)) (Host.exp (Host.negf gate))))))) (transpose S6x256x24x128 [0, 2, 1, 3] mem transposes_S6x24x256x128_S6x256x24x128_0_2_1_3)) (mulf (broadcastInDim S6x256x24x128 ![0, 1, 2, 3] bcast_S1x1x24x1_S6x256x24x128_0_1_2_3 (broadcastInDim S1x1x24x1 ![2, 3] bcast_S24x1_S1x1x24x1_2_3 (subf (broadcastInDim S24x1 ![] bcast_S_S24x1 (constant S_ .f32 0x3F800000#32)) (broadcastInDim S24x1 ![0] bcast_S24_S24x1_0 (Host.divf (broadcastInDim S24 ![] bcast_S_S24 (constant S_ .f32 0x3F800000#32)) (addf (broadcastInDim S24 ![] bcast_S_S24 (constant S_ .f32 0x3F800000#32)) (Host.exp (Host.negf gate)))))))) (transpose S6x256x24x128 [0, 2, 1, 3] loc transposes_S6x24x256x128_S6x256x24x128_0_2_1_3))) bitsLt_bf16_f32) shapeCasts_S6x256x24x128_S6x256x3072

/-- The reference's array is the blend of the two attentions. -/
theorem tower_eq (mem loc : FVec Ideal S6x24x256x128 .f32) (gate : FVec Ideal S24 .f32) : tower mem loc gate = Cert.MixIdeal.Row.mixed mem loc gate := by
  funext j
  obtain ⟨b, s, n, rfl⟩ : ∃ (b : Fin 6) (s : Fin 256) (n : Fin 3072), j = ix3 b s n :=
    ⟨j 0, j 1, j 2, by funext a; match a with | 0 => rfl | 1 => rfl | 2 => rfl⟩
  unfold tower
  pointwise
  rfl

end Cert.MixReferenceIdeal.Row

namespace Cert.Proof
open Idealize.ShloMosaic Idealize.ShloMosaic.TcCoe Idealize.SL.Sem

/-- Over the extended reals, of any arguments, the kernel's output is the reference's: each head's gate blends the memory
    attention and the local attention. -/
theorem algebraic_mix : algebraic_MixIdeal_MixReferenceIdeal := by
  intro m g m' g' hpre hargs
  refine ⟨fun c => Cert.MixIdeal.Row.mixed (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)),
    (θ_run _ _ _).mono (fun r h c => ?_) (Cert.MixIdeal.Value.run_blocks m g),
    (θ_run _ _ _).mono (fun r h c => ?_) (Cert.MixReferenceIdeal.Value.run m' g')⟩
  · obtain ⟨h3, rest⟩ := h c
    exact ⟨h3.trans (Cert.MixIdeal.Row.final3 m c), rest⟩
  · obtain ⟨e0, e1, e2⟩ := hargs c
    obtain ⟨h0, rest⟩ := h c
    refine ⟨h0.trans ?_, rest⟩
    refine (Cert.MixReferenceIdeal.Row.tower_eq _ _ _).trans ?_
    rw [e0, e1, e2]

/-- The frame of the mix's reference: its run leaves the arguments as they were, and it declares no semaphore. -/
theorem frame_mix_reference : quiescent_MixReferenceIdeal := fun m g _ =>
  (θ_run _ _ _).mono (fun r h => ⟨fun c => (h c).2, sem_eq_zero_of_no_sems (by decide) r.2⟩) (Cert.MixReferenceIdeal.Value.run m g)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_inputs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Algebraic
public import proofs.«01_k».proof.Proof.MixAlgebraic
public import Idealize.ShloMosaic.Adequacy
public import Idealize.ShloMosaic.Init

@[expose] public section

noncomputable section

namespace Cert.Proof

open Idealize.ShloMosaic Idealize.SL.Sem Cert.Kernel

/-- Every claim: the frames and the values of the local attention's program and of the gate's mix. -/
theorem claim : Cert.Claim := ⟨Cert.Kernel.Gen.facts, Cert.KernelIdeal.Gen.facts, Cert.ReferenceIdeal.Gen.facts, Cert.Mix.Gen.facts, Cert.MixIdeal.Gen.facts,
  Cert.MixReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Mix.Gen.frame m ρ, fun m ρ _ => Cert.MixIdeal.Gen.frame m ρ, frame_mix_reference,
  trivial, algebraic, trivial, algebraic_mix⟩

end Cert.Proof

end
